-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![64, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![2048, 4096]⟩ 1 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![2048, 1024]⟩ ⟨2, ![2048, 4096]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![2048, 4096]⟩ 1 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![64, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S2x1024x2048 : Shape := ⟨3, ![2, 1024, 2048]⟩
abbrev S2x2048x1024 : Shape := ⟨3, ![2, 2048, 1024]⟩
abbrev S4x64x512 : Shape := ⟨3, ![4, 64, 512]⟩
abbrev S3x64x512 : Shape := ⟨3, ![3, 64, 512]⟩
abbrev S64x512 : Shape := ⟨2, ![64, 512]⟩
abbrev S2x2 : Shape := ⟨2, ![2, 2]⟩
abbrev S3x4 : Shape := ⟨2, ![3, 4]⟩
abbrev S1x1 : Shape := ⟨2, ![1, 1]⟩
abbrev S_ : Shape := ⟨0, ![]⟩
abbrev S1x1024x2048 : Shape := ⟨3, ![1, 1024, 2048]⟩
abbrev S1x2048x1024 : Shape := ⟨3, ![1, 2048, 1024]⟩
abbrev S1024x512 : Shape := ⟨2, ![1024, 512]⟩
abbrev S1x64x512 : Shape := ⟨3, ![1, 64, 512]⟩
abbrev S1x64x128 : Shape := ⟨3, ![1, 64, 128]⟩
abbrev S64x128 : Shape := ⟨2, ![64, 128]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S64x1024, .f32⟩
  | .local _ .vmem, ⟨0, _⟩ => ⟨S64x1024, .f32⟩
  | .local _ .vmem, ⟨1, _⟩ => ⟨S64x1024, .f32⟩
  | .local _ .vmem, ⟨2, _⟩ => ⟨S2x1024x2048, .f32⟩
  | .local _ .vmem, ⟨3, _⟩ => ⟨S2x2048x1024, .f32⟩
  | .local _ .vmem, ⟨4, _⟩ => ⟨S4x64x512, .bf16⟩
  | .local _ .vmem, ⟨5, _⟩ => ⟨S3x64x512, .bf16⟩
  | .local _ .vmem, ⟨6, _⟩ => ⟨S64x512, .bf16⟩
  | .local _ .vmem, ⟨7, _⟩ => ⟨S3x64x512, .bf16⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_24 : BitVec 32 := 1#32
  let v26 : BitVec 32 := Scalar.muli v4 c1_i32_24
  let v27 : BitVec 32 := Scalar.addi c0_i32_25 v26
  v27.toNat
def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_27 : BitVec 32 := 1#32
  let v28 : BitVec 32 := Scalar.muli v6 c1_i32_27
  let v29 : BitVec 32 := Scalar.addi c0_i32_28 v28
  v29.toNat
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_30 : BitVec 32 := 1#32
  let v30 : BitVec 32 := Scalar.muli v8 c1_i32_30
  let v31 : BitVec 32 := Scalar.addi c0_i32_31 v30
  v31.toNat
def k0_off1 (d0 : Dev nD) (c2_i32 : BitVec 32) : Fin 2 → Nat :=
  let c0_42 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c2_i32
  let c4_i32_2 : BitVec 32 := 4#32
  let v6 : BitVec 32 := Scalar.remsi v5 c4_i32_2
  let c512_i32 : BitVec 32 := 512#32
  let v38 : BitVec 32 := Scalar.muli v6 c512_i32
  let v41 : Index := Scalar.indexCast v38
  ![0, v41.toNat]
def k0_off2 (d0 : Dev nD) (c2_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c2_i32
  let c4_i32_2 : BitVec 32 := 4#32
  let v6 : BitVec 32 := Scalar.remsi v5 c4_i32_2
  let v45 : Index := Scalar.indexCast v6
  let c0_43 : Index := 0#32
  let c0_44 : Index := 0#32
  ![v45.toNat, 0, 0]
def k0_off3 (d0 : Dev nD) (c2_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c2_i32
  let c4_i32_2 : BitVec 32 := 4#32
  let v6 : BitVec 32 := Scalar.remsi v5 c4_i32_2
  let c0_i32_54 : BitVec 32 := 0#32
  let c0_i32_55 : BitVec 32 := 0#32
  ![v6.toNat, 0, 0]
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_50 : BitVec 32 := 1#32
  let v49 : BitVec 32 := Scalar.muli v6 c1_i32_50
  let v50 : BitVec 32 := Scalar.addi c0_i32_51 v49
  v50.toNat
def k0_off4 (d0 : Dev nD) (c2_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c2_i32
  let c4_i32_2 : BitVec 32 := 4#32
  let v6 : BitVec 32 := Scalar.remsi v5 c4_i32_2
  let c0_i32_64 : BitVec 32 := 0#32
  let c128_i32_65 : BitVec 32 := 128#32
  ![v6.toNat, 0, 128]
def k0_dev5 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_61 : BitVec 32 := 1#32
  let v59 : BitVec 32 := Scalar.muli v6 c1_i32_61
  let v60 : BitVec 32 := Scalar.addi c0_i32_62 v59
  v60.toNat
def k0_off5 (d0 : Dev nD) (c2_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c2_i32
  let c4_i32_2 : BitVec 32 := 4#32
  let v6 : BitVec 32 := Scalar.remsi v5 c4_i32_2
  let c0_i32_74 : BitVec 32 := 0#32
  let c256_i32_75 : BitVec 32 := 256#32
  ![v6.toNat, 0, 256]
def k0_dev6 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_71 : BitVec 32 := 1#32
  let v69 : BitVec 32 := Scalar.muli v6 c1_i32_71
  let v70 : BitVec 32 := Scalar.addi c0_i32_72 v69
  v70.toNat
def k0_off6 (d0 : Dev nD) (c2_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c2_i32
  let c4_i32_2 : BitVec 32 := 4#32
  let v6 : BitVec 32 := Scalar.remsi v5 c4_i32_2
  let c0_i32_84 : BitVec 32 := 0#32
  let c384_i32_85 : BitVec 32 := 384#32
  ![v6.toNat, 0, 384]
def k0_dev7 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_81 : BitVec 32 := 1#32
  let v79 : BitVec 32 := Scalar.muli v6 c1_i32_81
  let v80 : BitVec 32 := Scalar.addi c0_i32_82 v79
  v80.toNat
def k0_dev8 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_99 : BitVec 32 := 1#32
  let v100 : BitVec 32 := Scalar.muli v4 c1_i32_99
  let v101 : BitVec 32 := Scalar.addi c0_i32_100 v100
  v101.toNat
def k0_dev9 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_110 : BitVec 32 := 1#32
  let v110 : BitVec 32 := Scalar.muli v4 c1_i32_110
  let v111 : BitVec 32 := Scalar.addi c0_i32_111 v110
  v111.toNat
def k0_dev10 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_121 : BitVec 32 := 1#32
  let v120 : BitVec 32 := Scalar.muli v4 c1_i32_121
  let v121 : BitVec 32 := Scalar.addi c0_i32_122 v120
  v121.toNat
def k0_dev11 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_132 : BitVec 32 := 1#32
  let v130 : BitVec 32 := Scalar.muli v4 c1_i32_132
  let v131 : BitVec 32 := Scalar.addi c0_i32_133 v130
  v131.toNat
def k0_dev12 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_151 : BitVec 32 := 1#32
  let v151 : BitVec 32 := Scalar.muli v8 c1_i32_151
  let v152 : BitVec 32 := Scalar.addi c0_i32_152 v151
  v152.toNat
def k0_dev13 (d0 : Dev nD) : Nat :=
  let c0_i32_163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_162 : BitVec 32 := 1#32
  let v161 : BitVec 32 := Scalar.muli v8 c1_i32_162
  let v162 : BitVec 32 := Scalar.addi c0_i32_163 v161
  v162.toNat
def k0_dev14 (d0 : Dev nD) : Nat :=
  let c0_i32_174 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_173 : BitVec 32 := 1#32
  let v171 : BitVec 32 := Scalar.muli v8 c1_i32_173
  let v172 : BitVec 32 := Scalar.addi c0_i32_174 v171
  v172.toNat
def k0_dev15 (d0 : Dev nD) : Nat :=
  let c0_i32_185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_184 : BitVec 32 := 1#32
  let v181 : BitVec 32 := Scalar.muli v8 c1_i32_184
  let v182 : BitVec 32 := Scalar.addi c0_i32_185 v181
  v182.toNat
def k0_off7 (d0 : Dev nD) : Fin 2 → Nat :=
  let c0_194 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_190 : BitVec 32 := 512#32
  let v191 : BitVec 32 := Scalar.muli v2 c512_i32_190
  let v194 : Index := Scalar.indexCast v191
  ![0, v194.toNat]
def k0_dev16 (d0 : Dev nD) : Nat :=
  let c0_i32_254 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_253 : BitVec 32 := 1#32
  let v245 : BitVec 32 := Scalar.muli v6 c1_i32_253
  let v246 : BitVec 32 := Scalar.addi c0_i32_254 v245
  v246.toNat
def k0_dev17 (d0 : Dev nD) : Nat :=
  let c0_i32_265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_264 : BitVec 32 := 1#32
  let v254 : BitVec 32 := Scalar.muli v4 c1_i32_264
  let v255 : BitVec 32 := Scalar.addi c0_i32_265 v254
  v255.toNat
def k0_dev18 (d0 : Dev nD) : Nat :=
  let c0_i32_276 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_275 : BitVec 32 := 1#32
  let v263 : BitVec 32 := Scalar.muli v8 c1_i32_275
  let v264 : BitVec 32 := Scalar.addi c0_i32_276 v263
  v264.toNat
def k0_off8 (d0 : Dev nD) (c0_i32_282 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_281 : BitVec 32 := 512#32
  let v272 : BitVec 32 := Scalar.muli v2 c512_i32_281
  let v273 : BitVec 32 := Scalar.addi v272 c0_i32_282
  let v276 : Index := Scalar.indexCast v273
  let c0_286 : Index := 0#32
  ![v276.toNat, 0]
def k0_dev19 (d0 : Dev nD) : Nat :=
  let c0_i32_341 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_340 : BitVec 32 := 1#32
  let v323 : BitVec 32 := Scalar.muli v6 c1_i32_340
  let v324 : BitVec 32 := Scalar.addi c0_i32_341 v323
  v324.toNat
def k0_dev20 (d0 : Dev nD) : Nat :=
  let c0_i32_352 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_351 : BitVec 32 := 1#32
  let v332 : BitVec 32 := Scalar.muli v4 c1_i32_351
  let v333 : BitVec 32 := Scalar.addi c0_i32_352 v332
  v333.toNat
def k0_dev21 (d0 : Dev nD) : Nat :=
  let c0_i32_363 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_362 : BitVec 32 := 1#32
  let v341 : BitVec 32 := Scalar.muli v8 c1_i32_362
  let v342 : BitVec 32 := Scalar.addi c0_i32_363 v341
  v342.toNat
def k0_dev22 (d0 : Dev nD) : Nat :=
  let c0_i32_428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_427 : BitVec 32 := 1#32
  let v401 : BitVec 32 := Scalar.muli v6 c1_i32_427
  let v402 : BitVec 32 := Scalar.addi c0_i32_428 v401
  v402.toNat
def k0_dev23 (d0 : Dev nD) : Nat :=
  let c0_i32_439 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_438 : BitVec 32 := 1#32
  let v410 : BitVec 32 := Scalar.muli v4 c1_i32_438
  let v411 : BitVec 32 := Scalar.addi c0_i32_439 v410
  v411.toNat
def k0_dev24 (d0 : Dev nD) : Nat :=
  let c0_i32_450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_449 : BitVec 32 := 1#32
  let v419 : BitVec 32 := Scalar.muli v8 c1_i32_449
  let v420 : BitVec 32 := Scalar.addi c0_i32_450 v419
  v420.toNat
def k0_dev25 (d0 : Dev nD) : Nat :=
  let c0_i32_515 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_514 : BitVec 32 := 1#32
  let v479 : BitVec 32 := Scalar.muli v6 c1_i32_514
  let v480 : BitVec 32 := Scalar.addi c0_i32_515 v479
  v480.toNat
def k0_dev26 (d0 : Dev nD) : Nat :=
  let c0_i32_526 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_525 : BitVec 32 := 1#32
  let v488 : BitVec 32 := Scalar.muli v4 c1_i32_525
  let v489 : BitVec 32 := Scalar.addi c0_i32_526 v488
  v489.toNat
def k0_dev27 (d0 : Dev nD) : Nat :=
  let c0_i32_537 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_536 : BitVec 32 := 1#32
  let v497 : BitVec 32 := Scalar.muli v8 c1_i32_536
  let v498 : BitVec 32 := Scalar.addi c0_i32_537 v497
  v498.toNat
def k0_off9 (d0 : Dev nD) (c1_i32_561 : BitVec 32) (c0_i32_568 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v522 : BitVec 32 := Scalar.addi v2 c1_i32_561
  let c1_i32_562 : BitVec 32 := 1#32
  let v523 : BitVec 32 := Scalar.addi v522 c1_i32_562
  let c4_i32_563 : BitVec 32 := 4#32
  let v524 : BitVec 32 := Scalar.remsi v523 c4_i32_563
  let c512_i32_567 : BitVec 32 := 512#32
  let v528 : BitVec 32 := Scalar.muli v524 c512_i32_567
  let v529 : BitVec 32 := Scalar.addi v528 c0_i32_568
  let v532 : Index := Scalar.indexCast v529
  let c0_572 : Index := 0#32
  ![v532.toNat, 0]
def k0_dev28 (d0 : Dev nD) : Nat :=
  let c0_i32_1118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_1117 : BitVec 32 := 1#32
  let v933 : BitVec 32 := Scalar.muli v6 c1_i32_1117
  let v934 : BitVec 32 := Scalar.addi c0_i32_1118 v933
  v934.toNat
def k0_dev29 (d0 : Dev nD) : Nat :=
  let c0_i32_1129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_1128 : BitVec 32 := 1#32
  let v943 : BitVec 32 := Scalar.muli v6 c1_i32_1128
  let v944 : BitVec 32 := Scalar.addi c0_i32_1129 v943
  v944.toNat
def k0_dev30 (d0 : Dev nD) : Nat :=
  let c0_i32_1140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_1139 : BitVec 32 := 1#32
  let v953 : BitVec 32 := Scalar.muli v6 c1_i32_1139
  let v954 : BitVec 32 := Scalar.addi c0_i32_1140 v953
  v954.toNat
def k0_dev31 (d0 : Dev nD) : Nat :=
  let c0_i32_1151 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_1150 : BitVec 32 := 1#32
  let v963 : BitVec 32 := Scalar.muli v6 c1_i32_1150
  let v964 : BitVec 32 := Scalar.addi c0_i32_1151 v963
  v964.toNat
def k0_dev32 (d0 : Dev nD) : Nat :=
  let c0_i32_1170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1169 : BitVec 32 := 1#32
  let v984 : BitVec 32 := Scalar.muli v4 c1_i32_1169
  let v985 : BitVec 32 := Scalar.addi c0_i32_1170 v984
  v985.toNat
def k0_dev33 (d0 : Dev nD) : Nat :=
  let c0_i32_1181 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1180 : BitVec 32 := 1#32
  let v994 : BitVec 32 := Scalar.muli v4 c1_i32_1180
  let v995 : BitVec 32 := Scalar.addi c0_i32_1181 v994
  v995.toNat
def k0_dev34 (d0 : Dev nD) : Nat :=
  let c0_i32_1192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1191 : BitVec 32 := 1#32
  let v1004 : BitVec 32 := Scalar.muli v4 c1_i32_1191
  let v1005 : BitVec 32 := Scalar.addi c0_i32_1192 v1004
  v1005.toNat
def k0_dev35 (d0 : Dev nD) : Nat :=
  let c0_i32_1203 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1202 : BitVec 32 := 1#32
  let v1014 : BitVec 32 := Scalar.muli v4 c1_i32_1202
  let v1015 : BitVec 32 := Scalar.addi c0_i32_1203 v1014
  v1015.toNat
def k0_dev36 (d0 : Dev nD) : Nat :=
  let c0_i32_1222 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_1221 : BitVec 32 := 1#32
  let v1035 : BitVec 32 := Scalar.muli v8 c1_i32_1221
  let v1036 : BitVec 32 := Scalar.addi c0_i32_1222 v1035
  v1036.toNat
def k0_dev37 (d0 : Dev nD) : Nat :=
  let c0_i32_1233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_1232 : BitVec 32 := 1#32
  let v1045 : BitVec 32 := Scalar.muli v8 c1_i32_1232
  let v1046 : BitVec 32 := Scalar.addi c0_i32_1233 v1045
  v1046.toNat
def k0_dev38 (d0 : Dev nD) : Nat :=
  let c0_i32_1244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_1243 : BitVec 32 := 1#32
  let v1055 : BitVec 32 := Scalar.muli v8 c1_i32_1243
  let v1056 : BitVec 32 := Scalar.addi c0_i32_1244 v1055
  v1056.toNat
def k0_dev39 (d0 : Dev nD) : Nat :=
  let c0_i32_1255 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_1254 : BitVec 32 := 1#32
  let v1065 : BitVec 32 := Scalar.muli v8 c1_i32_1254
  let v1066 : BitVec 32 := Scalar.addi c0_i32_1255 v1065
  v1066.toNat
def k0_dev40 (d0 : Dev nD) : Nat :=
  let c0_i32_1326 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_1325 : BitVec 32 := 1#32
  let v1129 : BitVec 32 := Scalar.muli v6 c1_i32_1325
  let v1130 : BitVec 32 := Scalar.addi c0_i32_1326 v1129
  v1130.toNat
def k0_dev41 (d0 : Dev nD) : Nat :=
  let c0_i32_1337 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1336 : BitVec 32 := 1#32
  let v1138 : BitVec 32 := Scalar.muli v4 c1_i32_1336
  let v1139 : BitVec 32 := Scalar.addi c0_i32_1337 v1138
  v1139.toNat
def k0_dev42 (d0 : Dev nD) : Nat :=
  let c0_i32_1348 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_1347 : BitVec 32 := 1#32
  let v1147 : BitVec 32 := Scalar.muli v8 c1_i32_1347
  let v1148 : BitVec 32 := Scalar.addi c0_i32_1348 v1147
  v1148.toNat
def k0_dev43 (d0 : Dev nD) : Nat :=
  let c0_i32_1414 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_1413 : BitVec 32 := 1#32
  let v1207 : BitVec 32 := Scalar.muli v6 c1_i32_1413
  let v1208 : BitVec 32 := Scalar.addi c0_i32_1414 v1207
  v1208.toNat
def k0_dev44 (d0 : Dev nD) : Nat :=
  let c0_i32_1425 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1424 : BitVec 32 := 1#32
  let v1216 : BitVec 32 := Scalar.muli v4 c1_i32_1424
  let v1217 : BitVec 32 := Scalar.addi c0_i32_1425 v1216
  v1217.toNat
def k0_dev45 (d0 : Dev nD) : Nat :=
  let c0_i32_1436 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_1435 : BitVec 32 := 1#32
  let v1225 : BitVec 32 := Scalar.muli v8 c1_i32_1435
  let v1226 : BitVec 32 := Scalar.addi c0_i32_1436 v1225
  v1226.toNat
def k0_dev46 (d0 : Dev nD) : Nat :=
  let c0_i32_1502 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_1501 : BitVec 32 := 1#32
  let v1285 : BitVec 32 := Scalar.muli v6 c1_i32_1501
  let v1286 : BitVec 32 := Scalar.addi c0_i32_1502 v1285
  v1286.toNat
def k0_dev47 (d0 : Dev nD) : Nat :=
  let c0_i32_1513 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1512 : BitVec 32 := 1#32
  let v1294 : BitVec 32 := Scalar.muli v4 c1_i32_1512
  let v1295 : BitVec 32 := Scalar.addi c0_i32_1513 v1294
  v1295.toNat
def k0_dev48 (d0 : Dev nD) : Nat :=
  let c0_i32_1524 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_1523 : BitVec 32 := 1#32
  let v1303 : BitVec 32 := Scalar.muli v8 c1_i32_1523
  let v1304 : BitVec 32 := Scalar.addi c0_i32_1524 v1303
  v1304.toNat
def k0_dev49 (d0 : Dev nD) : Nat :=
  let c0_i32_1590 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_1589 : BitVec 32 := 1#32
  let v1363 : BitVec 32 := Scalar.muli v6 c1_i32_1589
  let v1364 : BitVec 32 := Scalar.addi c0_i32_1590 v1363
  v1364.toNat
def k0_dev50 (d0 : Dev nD) : Nat :=
  let c0_i32_1601 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1600 : BitVec 32 := 1#32
  let v1372 : BitVec 32 := Scalar.muli v4 c1_i32_1600
  let v1373 : BitVec 32 := Scalar.addi c0_i32_1601 v1372
  v1373.toNat
def k0_dev51 (d0 : Dev nD) : Nat :=
  let c0_i32_1612 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_1611 : BitVec 32 := 1#32
  let v1381 : BitVec 32 := Scalar.muli v8 c1_i32_1611
  let v1382 : BitVec 32 := Scalar.addi c0_i32_1612 v1381
  v1382.toNat
def k0_dev52 (d0 : Dev nD) : Nat :=
  let c0_i32_2183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_2182 : BitVec 32 := 1#32
  let v1809 : BitVec 32 := Scalar.muli v6 c1_i32_2182
  let v1810 : BitVec 32 := Scalar.addi c0_i32_2183 v1809
  v1810.toNat
def k0_dev53 (d0 : Dev nD) : Nat :=
  let c0_i32_2194 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_2193 : BitVec 32 := 1#32
  let v1819 : BitVec 32 := Scalar.muli v6 c1_i32_2193
  let v1820 : BitVec 32 := Scalar.addi c0_i32_2194 v1819
  v1820.toNat
def k0_dev54 (d0 : Dev nD) : Nat :=
  let c0_i32_2205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_2204 : BitVec 32 := 1#32
  let v1829 : BitVec 32 := Scalar.muli v6 c1_i32_2204
  let v1830 : BitVec 32 := Scalar.addi c0_i32_2205 v1829
  v1830.toNat
def k0_dev55 (d0 : Dev nD) : Nat :=
  let c0_i32_2216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_2215 : BitVec 32 := 1#32
  let v1839 : BitVec 32 := Scalar.muli v6 c1_i32_2215
  let v1840 : BitVec 32 := Scalar.addi c0_i32_2216 v1839
  v1840.toNat
def k0_dev56 (d0 : Dev nD) : Nat :=
  let c0_i32_2235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2234 : BitVec 32 := 1#32
  let v1860 : BitVec 32 := Scalar.muli v4 c1_i32_2234
  let v1861 : BitVec 32 := Scalar.addi c0_i32_2235 v1860
  v1861.toNat
def k0_dev57 (d0 : Dev nD) : Nat :=
  let c0_i32_2246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2245 : BitVec 32 := 1#32
  let v1870 : BitVec 32 := Scalar.muli v4 c1_i32_2245
  let v1871 : BitVec 32 := Scalar.addi c0_i32_2246 v1870
  v1871.toNat
def k0_dev58 (d0 : Dev nD) : Nat :=
  let c0_i32_2257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2256 : BitVec 32 := 1#32
  let v1880 : BitVec 32 := Scalar.muli v4 c1_i32_2256
  let v1881 : BitVec 32 := Scalar.addi c0_i32_2257 v1880
  v1881.toNat
def k0_dev59 (d0 : Dev nD) : Nat :=
  let c0_i32_2268 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2267 : BitVec 32 := 1#32
  let v1890 : BitVec 32 := Scalar.muli v4 c1_i32_2267
  let v1891 : BitVec 32 := Scalar.addi c0_i32_2268 v1890
  v1891.toNat
def k0_dev60 (d0 : Dev nD) : Nat :=
  let c0_i32_2287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_2286 : BitVec 32 := 1#32
  let v1911 : BitVec 32 := Scalar.muli v8 c1_i32_2286
  let v1912 : BitVec 32 := Scalar.addi c0_i32_2287 v1911
  v1912.toNat
def k0_dev61 (d0 : Dev nD) : Nat :=
  let c0_i32_2298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_2297 : BitVec 32 := 1#32
  let v1921 : BitVec 32 := Scalar.muli v8 c1_i32_2297
  let v1922 : BitVec 32 := Scalar.addi c0_i32_2298 v1921
  v1922.toNat
def k0_dev62 (d0 : Dev nD) : Nat :=
  let c0_i32_2309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_2308 : BitVec 32 := 1#32
  let v1931 : BitVec 32 := Scalar.muli v8 c1_i32_2308
  let v1932 : BitVec 32 := Scalar.addi c0_i32_2309 v1931
  v1932.toNat
def k0_dev63 (d0 : Dev nD) : Nat :=
  let c0_i32_2320 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_2319 : BitVec 32 := 1#32
  let v1941 : BitVec 32 := Scalar.muli v8 c1_i32_2319
  let v1942 : BitVec 32 := Scalar.addi c0_i32_2320 v1941
  v1942.toNat
def k0_dev64 (d0 : Dev nD) : Nat :=
  let c0_i32_2391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_2390 : BitVec 32 := 1#32
  let v2005 : BitVec 32 := Scalar.muli v6 c1_i32_2390
  let v2006 : BitVec 32 := Scalar.addi c0_i32_2391 v2005
  v2006.toNat
def k0_dev65 (d0 : Dev nD) : Nat :=
  let c0_i32_2402 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2401 : BitVec 32 := 1#32
  let v2014 : BitVec 32 := Scalar.muli v4 c1_i32_2401
  let v2015 : BitVec 32 := Scalar.addi c0_i32_2402 v2014
  v2015.toNat
def k0_dev66 (d0 : Dev nD) : Nat :=
  let c0_i32_2413 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_2412 : BitVec 32 := 1#32
  let v2023 : BitVec 32 := Scalar.muli v8 c1_i32_2412
  let v2024 : BitVec 32 := Scalar.addi c0_i32_2413 v2023
  v2024.toNat
def k0_dev67 (d0 : Dev nD) : Nat :=
  let c0_i32_2479 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_2478 : BitVec 32 := 1#32
  let v2083 : BitVec 32 := Scalar.muli v6 c1_i32_2478
  let v2084 : BitVec 32 := Scalar.addi c0_i32_2479 v2083
  v2084.toNat
def k0_dev68 (d0 : Dev nD) : Nat :=
  let c0_i32_2490 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2489 : BitVec 32 := 1#32
  let v2092 : BitVec 32 := Scalar.muli v4 c1_i32_2489
  let v2093 : BitVec 32 := Scalar.addi c0_i32_2490 v2092
  v2093.toNat
def k0_dev69 (d0 : Dev nD) : Nat :=
  let c0_i32_2501 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_2500 : BitVec 32 := 1#32
  let v2101 : BitVec 32 := Scalar.muli v8 c1_i32_2500
  let v2102 : BitVec 32 := Scalar.addi c0_i32_2501 v2101
  v2102.toNat
def k0_dev70 (d0 : Dev nD) : Nat :=
  let c0_i32_2567 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_2566 : BitVec 32 := 1#32
  let v2161 : BitVec 32 := Scalar.muli v6 c1_i32_2566
  let v2162 : BitVec 32 := Scalar.addi c0_i32_2567 v2161
  v2162.toNat
def k0_dev71 (d0 : Dev nD) : Nat :=
  let c0_i32_2578 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2577 : BitVec 32 := 1#32
  let v2170 : BitVec 32 := Scalar.muli v4 c1_i32_2577
  let v2171 : BitVec 32 := Scalar.addi c0_i32_2578 v2170
  v2171.toNat
def k0_dev72 (d0 : Dev nD) : Nat :=
  let c0_i32_2589 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_2588 : BitVec 32 := 1#32
  let v2179 : BitVec 32 := Scalar.muli v8 c1_i32_2588
  let v2180 : BitVec 32 := Scalar.addi c0_i32_2589 v2179
  v2180.toNat
def k0_dev73 (d0 : Dev nD) : Nat :=
  let c0_i32_2655 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_2654 : BitVec 32 := 1#32
  let v2239 : BitVec 32 := Scalar.muli v6 c1_i32_2654
  let v2240 : BitVec 32 := Scalar.addi c0_i32_2655 v2239
  v2240.toNat
def k0_dev74 (d0 : Dev nD) : Nat :=
  let c0_i32_2666 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2665 : BitVec 32 := 1#32
  let v2248 : BitVec 32 := Scalar.muli v4 c1_i32_2665
  let v2249 : BitVec 32 := Scalar.addi c0_i32_2666 v2248
  v2249.toNat
def k0_dev75 (d0 : Dev nD) : Nat :=
  let c0_i32_2677 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_2676 : BitVec 32 := 1#32
  let v2257 : BitVec 32 := Scalar.muli v8 c1_i32_2676
  let v2258 : BitVec 32 := Scalar.addi c0_i32_2677 v2257
  v2258.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x4096 : Shape := ⟨2, ![64, 4096]⟩
abbrev S4096x2048 : Shape := ⟨2, ![4096, 2048]⟩
abbrev S2048x4096 : Shape := ⟨2, ![2048, 4096]⟩
abbrev S64x2048 : Shape := ⟨2, ![64, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S64x2048, .f32⟩
  | .hbm, ⟨8, _⟩ => ⟨S_, .f32⟩
  | .hbm, ⟨9, _⟩ => ⟨S64x2048, .f32⟩
  | .hbm, ⟨10, _⟩ => ⟨S64x2048, .f32⟩
  | .hbm, ⟨11, _⟩ => ⟨S64x4096, .f32⟩
  | .hbm, ⟨12, _⟩ => ⟨S64x2048, .f32⟩
  | .hbm, ⟨13, _⟩ => ⟨S_, .f32⟩
  | .hbm, ⟨14, _⟩ => ⟨S64x2048, .f32⟩
  | .hbm, ⟨15, _⟩ => ⟨S64x2048, .f32⟩
  | .hbm, ⟨16, _⟩ => ⟨S64x4096, .f32⟩
  | .hbm, ⟨17, _⟩ => ⟨S64x2048, .f32⟩
  | .hbm, ⟨18, _⟩ => ⟨S_, .f32⟩
  | .hbm, ⟨19, _⟩ => ⟨S64x2048, .f32⟩
  | .hbm, ⟨20, _⟩ => ⟨S64x2048, .f32⟩
  | .hbm, ⟨21, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Body.lean ====
/-
  The kernel body as a structured program: a barrier, then three layers, each a loop over the
  peers, a loop over the four column groups, a loop over the arriving groups and the waits for
  the copies out. `body_eq` says the printed body is this program.
-/
module

public import proofs.«01_k».proof.Proof.Gen.KernelIdeal.Points

@[expose] public section

noncomputable section

namespace Cert.KernelIdeal.Mlp

open Idealize.ShloMosaic Idealize.ShloMosaic.TcCoe
open Idealize.SL Idealize.SL.Sem
open Cert.KernelIdeal.Facts₀ Cert.KernelIdeal.Facts

variable {F : FTy → Type} [FloatOps F]

/-- Programs of this kernel. -/
abbrev P (F : FTy → Type) (α : Type) : Type 1 := Prog (TpuEff nD τ sig (Elt F) Λ₀ .tc) α

/-- A loop over `n` steps, passing a value along. -/
def loop {α : Type} : (n : ℕ) → (Fin n → α → P F α) → α → P F α
  | 0, _, a => pure a
  | n + 1, b, a => b 0 a >>= loop n (fun i => b i.succ)

/-- The order the kernel visits its peers in when sending: offset less one. -/
def ordS : Fin 3 → Fin 3 := ![1, 0, 2]
/-- The order the kernel visits its receive slots in. -/
def ordR : Fin 3 → Fin 3 := ![1, 2, 0]

/-- The word of the offset of peer `j`. -/
abbrev ow (j : Fin 3) : BitVec 32 := BitVec.ofNat 32 (1 + j.val)

/-- The peer at offset `j + 1` as the kernel computes it. -/
def peerW (d : Dev nD) (o : BitVec 32) : BitVec 32 :=
  Scalar.remsi (Scalar.addi (Scalar.remsi (Scalar.divsi (Dev.word d) 1#32) 4#32) o) 4#32

/-- The peer's device number. -/
def peerN (d : Dev nD) (o : BitVec 32) : ℕ := (Scalar.addi 0#32 (Scalar.muli (peerW d o) 1#32)).toNat

theorem peerN_lt : ∀ (d : Dev nD) (j : Fin 3), peerN d (ow j) < nD := by decide +kernel

/-- The peer at offset `j + 1`. -/
def peerD (d : Dev nD) (j : Fin 3) : Dev nD := ⟨peerN d (ow j), peerN_lt d j⟩

/-- Where column group `h` of the partial for peer `j` starts. -/
def poff (d : Dev nD) (j : Fin 3) (h : Fin 4) : Fin 3 → ℕ := ![(peerW d (ow j)).toNat, 0, 128 * h.val]

theorem poff_inb : ∀ (d : Dev nD) (j : Fin 3) (h : Fin 4) (a : Fin 3), poff d j h a + S1x64x128.size a ≤ S4x64x512.size a := by
  decide +kernel
theorem poff_words : ∀ (d : Dev nD) (j : Fin 3) (h : Fin 4),
    (Rect.unit (s := S4x64x512) (poff d j h) S1x64x128.size (poff_inb d j h)).WholeWords (EltTy.packing .bf16) := by decide +kernel

/-- Where column group `h` of receive slot `k` starts. -/
def soff (k : Fin 3) (h : Fin 4) : Fin 3 → ℕ := ![k.val, 0, 128 * h.val]
theorem soff_inb : ∀ (k : Fin 3) (h : Fin 4) (a : Fin 3), soff k h a + S1x64x128.size a ≤ S3x64x512.size a := by decide +kernel
theorem soff_words : ∀ (k : Fin 3) (h : Fin 4),
    (Rect.unit (s := S3x64x512) (soff k h) S1x64x128.size (soff_inb k h)).WholeWords (EltTy.packing .bf16) := by decide +kernel

/-- Where column group `h` of the own quarter starts. -/
def moff (h : Fin 4) : Fin 2 → ℕ := ![0, 128 * h.val]
theorem moff_inb : ∀ (h : Fin 4) (a : Fin 2), moff h a + S64x128.size a ≤ S64x512.size a := by decide +kernel
theorem moff_words : ∀ (h : Fin 4),
    (Rect.unit (s := S64x512) (moff h) S64x128.size (moff_inb h)).WholeWords (EltTy.packing .bf16) := by decide +kernel
theorem moff_packed : ∀ (h : Fin 4),
    (Rect.unit (s := S64x512) (moff h) S64x128.size (moff_inb h)).PackedRows (EltTy.packing .bf16) := by decide +kernel

/-- Where weight slot `s` starts. -/
def woff (s : Fin 2) : Fin 3 → ℕ := ![s.val, 0, 0]
theorem woff_inb : ∀ (s : Fin 2) (a : Fin 3), woff s a + S1x1024x2048.size a ≤ S2x1024x2048.size a := by decide +kernel
theorem woff_inb' : ∀ (s : Fin 2) (a : Fin 3), woff s a + S1x2048x1024.size a ≤ S2x2048x1024.size a := by decide +kernel

/-- The words of the column group offsets. -/
abbrev hw (h : Fin 4) : BitVec 32 := BitVec.ofNat 32 (128 * h.val)

/-- The semaphores of the kernel, by their numbers. -/
def wSem (s : Fin 2) (b : Fin 2) : DmaSem sig := ⟨2 + 2 * s.val + b.val, by have := s.isLt; have := b.isLt; show _ < 54; omega⟩
def rsS (j : Fin 3) (h : Fin 4) : DmaSem sig := ⟨6 + 4 * j.val + h.val, by have := j.isLt; have := h.isLt; show _ < 54; omega⟩
def rsR (j : Fin 3) (h : Fin 4) : DmaSem sig := ⟨18 + 4 * j.val + h.val, by have := j.isLt; have := h.isLt; show _ < 54; omega⟩
def agS (j : Fin 3) (h : Fin 4) : DmaSem sig := ⟨30 + 4 * j.val + h.val, by have := j.isLt; have := h.isLt; show _ < 54; omega⟩
def agR (j : Fin 3) (h : Fin 4) : DmaSem sig := ⟨42 + 4 * j.val + h.val, by have := j.isLt; have := h.isLt; show _ < 54; omega⟩

theorem off1_inb : ∀ (d : Dev nD) (j : Fin 3) (a : Fin 2), k0_off1 d (ow j) a + S1024x512.size a ≤ S1024x2048.size a := by decide +kernel
theorem off2_inb : ∀ (d : Dev nD) (j : Fin 3) (a : Fin 3), k0_off2 d (ow j) a + S1x64x512.size a ≤ S4x64x512.size a := by decide +kernel
theorem off2_packed : ∀ (d : Dev nD) (j : Fin 3),
    (Rect.unit (s := S4x64x512) (k0_off2 d (ow j)) S1x64x512.size (off2_inb d j)).PackedRows (EltTy.packing .bf16) := by decide +kernel
theorem off8_inb : ∀ (d : Dev nD) (h : Fin 4) (a : Fin 2), k0_off8 d (hw h) a + S128x1024.size a ≤ S2048x1024.size a := by decide +kernel
theorem off9_inb : ∀ (d : Dev nD) (k : Fin 3) (h : Fin 4) (a : Fin 2),
    k0_off9 d (BitVec.ofNat 32 k.val) (hw h) a + S128x1024.size a ≤ S2048x1024.size a := by decide +kernel

variable [Facts]

/-- The four buffers the exchanges use, by their column groups. -/
abbrev pView (d : Dev nD) (j : Fin 3) (h : Fin 4) : Memref sig .tc .vmem S64x128 .bf16 :=
  ((Memref.whole cc0_scratch2).slice (Rect.unit (s := S4x64x512) (poff d j h) S1x64x128.size (poff_inb d j h)) (fun _ => rfl)).squeeze S64x128 squeezes_S1x64x128_S64x128
abbrev rsView (k : Fin 3) (h : Fin 4) : Memref sig .tc .vmem S64x128 .bf16 :=
  ((Memref.whole cc0_scratch3).slice (Rect.unit (s := S3x64x512) (soff k h) S1x64x128.size (soff_inb k h)) (fun _ => rfl)).squeeze S64x128 squeezes_S1x64x128_S64x128
abbrev agView (k : Fin 3) (h : Fin 4) : Memref sig .tc .vmem S64x128 .bf16 :=
  ((Memref.whole cc0_scratch5).slice (Rect.unit (s := S3x64x512) (soff k h) S1x64x128.size (soff_inb k h)) (fun _ => rfl)).squeeze S64x128 squeezes_S1x64x128_S64x128
abbrev mView (h : Fin 4) : Memref sig .tc .vmem S64x128 .bf16 :=
  (Memref.whole cc0_scratch4).slice (Rect.unit (s := S64x512) (moff h) S64x128.size (moff_inb h)) (fun _ => rfl)
/-- The weight slots. -/
abbrev wiView (s : Fin 2) : Memref sig .tc .vmem S1024x2048 .f32 :=
  ((Memref.whole cc0_scratch0).slice (Rect.unit (s := S2x1024x2048) (woff s) S1x1024x2048.size (woff_inb s)) (fun _ => rfl)).squeeze S1024x2048 squeezes_S1x1024x2048_S1024x2048
abbrev woView (s : Fin 2) : Memref sig .tc .vmem S2048x1024 .f32 :=
  ((Memref.whole cc0_scratch1).slice (Rect.unit (s := S2x2048x1024) (woff s) S1x2048x1024.size (woff_inb' s)) (fun _ => rfl)).squeeze S2048x1024 squeezes_S1x2048x1024_S2048x1024

theorem pView_words (d : Dev nD) (j : Fin 3) (h : Fin 4) : (pView d j h).view.WordExact :=
  (((Memref.isWhole_whole cc0_scratch2).wordExact_slice rfl _ (poff_words d j h)).reshape _ _)
theorem rsView_words (k : Fin 3) (h : Fin 4) : (rsView k h).view.WordExact :=
  (((Memref.isWhole_whole cc0_scratch3).wordExact_slice rfl _ (soff_words k h)).reshape _ _)
theorem agView_words (k : Fin 3) (h : Fin 4) : (agView k h).view.WordExact :=
  (((Memref.isWhole_whole cc0_scratch5).wordExact_slice rfl _ (soff_words k h)).reshape _ _)
theorem mView_words (h : Fin 4) : (mView h).view.WordExact :=
  ((Memref.isWhole_whole cc0_scratch4).wordExact_slice rfl _ (moff_words h))

/-- The weights of layer `l`. -/
def winR : Fin 3 → Ref sig .tc := ![main_arg1, main_arg2, main_arg3]

/-- The pure values: a partial product, the sum with an arrived part, the output's sums. -/
def dotP (x : FVec F S64x1024 .f32) (w : Vec F S1024x512 .f32) : FVec F S64x512 .f32 :=
  matmul dot_S64x1024_S1024x512_S64x512_1_0_0_1_n_n none x w (constant S64x512 .f32 0x00000000#32)
def packP (p : FVec F S64x512 .f32) : FVec F S1x64x512 .bf16 :=
  shapeCast S1x64x512 (truncf .bf16 p bitsLt_bf16_f32) shapeCasts_S64x512_S1x64x512
def ext (v : Vec F S1x64x128 .bf16) : FVec F S64x128 .f32 :=
  extf .f32 (shapeCast S64x128 v shapeCasts_S1x64x128_S64x128) bitsLt_bf16_f32
theorem slices_h : ∀ h : Fin 4, S64x512.Slices (moff h) S64x128 := by decide +kernel
def relu (a : FVec F S64x128 .f32) : FVec F S64x128 .f32 :=
  maximumf a (broadcast S64x128 (Scalar.ofBits .f32 0x00000000#32))
def packM (a : FVec F S64x128 .f32) : FVec F S64x128 .bf16 :=
  shapeCast S64x128 (truncf .bf16 a bitsLt_bf16_f32) shapeCasts_S64x128_S64x128
def dotO (a : FVec F S64x128 .f32) (w : Vec F S128x1024 .f32) : FVec F S64x1024 .f32 :=
  matmul dot_S64x128_S128x1024_S64x1024_1_0_0_1_n_n none a w (constant S64x1024 .f32 0x00000000#32)

/-- One copy of a column group of the partial to a peer. -/
def rsSend (d : Dev nD) (j : Fin 3) (h : Fin 4) : P F PUnit :=
  Prog.lift (.enqueueDma (pView d j h) (.remote (Dev.tc (peerD d j)) (rsView j.rev h) (.dma (rsS j h))) (.dma (rsR j.rev h))
    (pView_words d j h) (rsView_words j.rev h) ⟨⟨rfl, Or.inl rfl⟩, trivial⟩)

/-- The partial for peer `j`: computed, stored and copied out by column groups. -/
def sendBlock (d : Dev nD) (s : Fin 2) (x : FVec F S64x1024 .f32) (j : Fin 3) : P F PUnit := do
  let w : Vec F S1024x512 .f32 ← Prog.lift (.load (wiView s) (Rect.unit (s := S1024x2048) (k0_off1 d (ow j)) S1024x512.size (off1_inb d j)).toLoadRect (View.loadsAt_vmem h_S1024x512))
  let _ : Vec F S1x64x512 .bf16 ← Prog.lift (.load (Memref.whole cc0_scratch2) (Rect.unit (s := S4x64x512) (k0_off2 d (ow j)) S1x64x512.size (off2_inb d j)).toLoadRect (View.loadsAt_vmem h_S1x64x512))
  Prog.lift (.store (Memref.whole cc0_scratch2) (Rect.unit (s := S4x64x512) (k0_off2 d (ow j)) S1x64x512.size (off2_inb d j)) (packP (dotP x w)) Finset.univ (View.stores_vmem h_S1x64x512 ((Memref.isWhole_whole cc0_scratch2).storeExact_slice rfl _ (off2_packed d j)) (fun _ => rfl)) (.inl rfl))
  loop 4 (fun h _ => rsSend d j h) ⟨⟩

/-- Take in one arrived column group of a partial and add it. -/
def rsRecv (h : Fin 4) (k : Fin 3) (a : FVec F S64x128 .f32) : P F (FVec F S64x128 .f32) := do
  Prog.lift (.waitDma2 (rsR k h) (rsView k h) (rsView k h) (rsView_words k h) (rsView_words k h))
  let v : Vec F S1x64x128 .bf16 ← Prog.lift (.load (Memref.whole cc0_scratch3) (Rect.unit (s := S3x64x512) (soff k h) S1x64x128.size (soff_inb k h)).toLoadRect (View.loadsAt_vmem h_S1x64x128))
  pure (addf a (ext v))

/-- One copy of a column group of the own quarter to a peer. -/
def agSend (d : Dev nD) (h : Fin 4) (j : Fin 3) : P F PUnit :=
  Prog.lift (.enqueueDma (mView h) (.remote (Dev.tc (peerD d j)) (agView j.rev h) (.dma (agS j h))) (.dma (agR j.rev h))
    (mView_words h) (agView_words j.rev h) ⟨⟨rfl, Or.inl rfl⟩, trivial⟩)

/-- Column group `h` of the own quarter: summed, rectified, stored, copied out and multiplied. -/
def halfBlock (d : Dev nD) (s : Fin 2) (own : FVec F S64x512 .f32) (h : Fin 4) (y : FVec F S64x1024 .f32) : P F (FVec F S64x1024 .f32) := do
  let a ← loop 3 (fun i a => rsRecv h (ordR i) a) (extractStridedSlice S64x128 (moff h) own (slices_h h))
  let _ : Vec F S64x128 .bf16 ← Prog.lift (.load (Memref.whole cc0_scratch4) (Rect.unit (s := S64x512) (moff h) S64x128.size (moff_inb h)).toLoadRect (View.loadsAt_vmem h_S64x128))
  Prog.lift (.store (Memref.whole cc0_scratch4) (Rect.unit (s := S64x512) (moff h) S64x128.size (moff_inb h)) (packM (relu a)) Finset.univ (View.stores_vmem h_S64x128 ((Memref.isWhole_whole cc0_scratch4).storeExact_slice rfl _ (moff_packed h)) (fun _ => rfl)) (.inl rfl))
  loop 3 (fun i _ => agSend d h (ordS i)) ⟨⟩
  let w : Vec F S128x1024 .f32 ← Prog.lift (.load (woView s) (Rect.unit (s := S2048x1024) (k0_off8 d (hw h)) S128x1024.size (off8_inb d h)).toLoadRect (View.loadsAt_vmem h_S128x1024))
  pure (addf y (dotO (relu a) w))

/-- Take in one arrived column group of a peer's quarter and multiply it. -/
def agRecv (d : Dev nD) (s : Fin 2) (h : Fin 4) (k : Fin 3) (y : FVec F S64x1024 .f32) : P F (FVec F S64x1024 .f32) := do
  Prog.lift (.waitDma2 (agR k h) (agView k h) (agView k h) (agView_words k h) (agView_words k h))
  let v : Vec F S1x64x128 .bf16 ← Prog.lift (.load (Memref.whole cc0_scratch5) (Rect.unit (s := S3x64x512) (soff k h) S1x64x128.size (soff_inb k h)).toLoadRect (View.loadsAt_vmem h_S1x64x128))
  let w : Vec F S128x1024 .f32 ← Prog.lift (.load (woView s) (Rect.unit (s := S2048x1024) (k0_off9 d (BitVec.ofNat 32 k.val) (hw h)) S128x1024.size (off9_inb d k h)).toLoadRect (View.loadsAt_vmem h_S128x1024))
  pure (addf y (dotO (ext v) w))

/-- Wait for a copy of the partial out. -/
def rsDone (d : Dev nD) (j : Fin 3) (h : Fin 4) : P F PUnit :=
  Prog.lift (.waitDma2 (rsS j h) (rsView j.rev h) (pView d j h) (rsView_words j.rev h) (pView_words d j h))
/-- Wait for a copy of the own quarter out. -/
def agDone (h : Fin 4) (j : Fin 3) : P F PUnit :=
  Prog.lift (.waitDma2 (agS j h) (agView j.rev h) (mView h) (agView_words j.rev h) (mView_words h))

/-- Fetch a layer's weights into a slot, and the waits for them. -/
def winStart (r : Memref sig .tc .hbm S1024x2048 .f32) (hr : r.view.WordExact) (s : Fin 2) : P F PUnit :=
  Prog.lift (.enqueueDma r (.here (wiView s)) (.dma (wSem s 0)) hr ((View.wordExact_bits rfl).reshape _ _) ⟨Or.inl rfl, trivial⟩)
def woutStart (r : Memref sig .tc .hbm S2048x1024 .f32) (hr : r.view.WordExact) (s : Fin 2) : P F PUnit :=
  Prog.lift (.enqueueDma r (.here (woView s)) (.dma (wSem s 1)) hr ((View.wordExact_bits rfl).reshape _ _) ⟨Or.inl rfl, trivial⟩)
def winWait (r : Memref sig .tc .hbm S1024x2048 .f32) (hr : r.view.WordExact) (s : Fin 2) : P F PUnit :=
  Prog.lift (.waitDma2 (wSem s 0) r (wiView s) hr ((View.wordExact_bits rfl).reshape _ _))
def woutWait (r : Memref sig .tc .hbm S2048x1024 .f32) (hr : r.view.WordExact) (s : Fin 2) : P F PUnit :=
  Prog.lift (.waitDma2 (wSem s 1) r (woView s) hr ((View.wordExact_bits rfl).reshape _ _))

theorem off7_inb : ∀ (d : Dev nD) (a : Fin 2), k0_off7 d a + S1024x512.size a ≤ S1024x2048.size a := by decide +kernel

/-- One layer on the weights in slot `s`, taken from `wi` and `wo`. -/
def layer (d : Dev nD) (wi : Memref sig .tc .hbm S1024x2048 .f32) (hwi : wi.view.WordExact)
    (wo : Memref sig .tc .hbm S2048x1024 .f32) (hwo : wo.view.WordExact) (s : Fin 2)
    (x : FVec F S64x1024 .f32) : P F (FVec F S64x1024 .f32) := do
  winWait wi hwi s
  loop 3 (fun i _ => sendBlock d s x (ordS i)) ⟨⟩
  let w : Vec F S1024x512 .f32 ← Prog.lift (.load (wiView s) (Rect.unit (s := S1024x2048) (k0_off7 d) S1024x512.size (off7_inb d)).toLoadRect (View.loadsAt_vmem h_S1024x512))
  woutWait wo hwo s
  let y ← loop 4 (halfBlock d s (dotP x w)) (broadcast S64x1024 (Scalar.ofBits .f32 0x00000000#32))
  let z ← loop 4 (fun h y => loop 3 (fun i y => agRecv d s h (ordR i) y) y) y
  loop 3 (fun i _ => loop 4 (fun h _ => rsDone d (ordS i) h) ⟨⟩) ⟨⟩
  loop 4 (fun h _ => loop 3 (fun i _ => agDone h (ordS i)) ⟨⟩) ⟨⟩
  pure z

/-- The barrier: one signal to each peer, then three units taken. -/
def barrier (d : Dev nD) : P F PUnit := do
  loop 3 (fun i _ => semSignalWord (peerD d i) barrier0 1#32) ⟨⟩
  semWaitWord barrier0 3#32

/-- The first layer's and the second layer's weights on the way, then the barrier. -/
def start (d : Dev nD) : P F PUnit := do
  winStart (Memref.whole main_arg1) (Memref.isWhole_whole main_arg1).wordExact 0
  woutStart (Memref.whole main_arg4) (Memref.isWhole_whole main_arg4).wordExact 0
  winStart (Memref.whole main_arg2) (Memref.isWhole_whole main_arg2).wordExact 1
  woutStart (Memref.whole main_arg5) (Memref.isWhole_whole main_arg5).wordExact 1
  barrier d

/-- The third layer's weights on the way. -/
def startLast : P F PUnit := do
  winStart (Memref.whole main_arg3) (Memref.isWhole_whole main_arg3).wordExact 0
  woutStart (Memref.whole main_arg6) (Memref.isWhole_whole main_arg6).wordExact 0

/-- The whole body. -/
def body (d : Dev nD) : P F PUnit := do
  start d
  let x : Vec F S64x1024 .f32 ← Prog.lift (.load (Memref.whole cc0_stg0_0) (Rect.unit (s := S64x1024) ![0, 0] S64x1024.size inb_S64x1024_S64x1024_0_0).toLoadRect (View.loadsAt_vmem h_S64x1024))
  let y ← layer d (Memref.whole main_arg1) (Memref.isWhole_whole main_arg1).wordExact (Memref.whole main_arg4) (Memref.isWhole_whole main_arg4).wordExact 0
    (shapeCast S64x1024 x shapeCasts_S64x1024_S64x1024)
  startLast
  let z ← layer d (Memref.whole main_arg2) (Memref.isWhole_whole main_arg2).wordExact (Memref.whole main_arg5) (Memref.isWhole_whole main_arg5).wordExact 1 y
  let u ← layer d (Memref.whole main_arg3) (Memref.isWhole_whole main_arg3).wordExact (Memref.whole main_arg6) (Memref.isWhole_whole main_arg6).wordExact 0 z
  let _ : Vec F S64x1024 .f32 ← Prog.lift (.load (Memref.whole cc0_stg1_0) (Rect.unit (s := S64x1024) ![0, 0] S64x1024.size inb_S64x1024_S64x1024_0_0).toLoadRect (View.loadsAt_vmem h_S64x1024))
  Prog.lift (.store (Memref.whole cc0_stg1_0) (Rect.unit (s := S64x1024) ![0, 0] S64x1024.size inb_S64x1024_S64x1024_0_0) u Finset.univ (View.stores_vmem_bits_univ h_S64x1024 rfl) (.inl rfl))
  pure ⟨⟩

end Cert.KernelIdeal.Mlp
-- ==== Proof.Vals.lean ====
/-
  What the buffers of the kernel hold: the contents of each exchanged region as a function of
  the whole matrix it is a part of, and the lemmas that stores, copies and loads keep to them.
-/
module

public import proofs.«01_k».proof.Proof.Body
public import Idealize.ShloMosaic.Lib.ValueLayout

@[expose] public section

noncomputable section

namespace Cert.KernelIdeal.Mlp

open Idealize.ShloMosaic Idealize.ShloMosaic.TcCoe
open Idealize.SL Idealize.SL.Sem
open Idealize.ShloMosaic.ValueIdx
open Cert.KernelIdeal.Facts₀ Cert.KernelIdeal.Facts

/-! ## The peers -/

theorem peer_peer : ∀ (d : Dev nD) (j : Fin 3), peerD (peerD d j) j.rev = d := by decide +kernel
theorem peer_peer' (d : Dev nD) (j : Fin 3) : peerD (peerD d j.rev) j = d := by
  have := peer_peer d j.rev; rwa [Fin.rev_rev] at this
theorem peer_ne : ∀ (d : Dev nD) (j : Fin 3), peerD d j ≠ d := by decide +kernel
theorem peer_inj : ∀ (d : Dev nD) (j j' : Fin 3), peerD d j = peerD d j' → j = j' := by decide +kernel

theorem off1_eq : ∀ (d : Dev nD) (j : Fin 3) (a : Fin 2), k0_off1 d (ow j) a = (![0, 512 * (peerD d j).val] : Fin 2 → ℕ) a := by decide +kernel
theorem off2_eq : ∀ (d : Dev nD) (j : Fin 3) (a : Fin 3), k0_off2 d (ow j) a = (![(peerD d j).val, 0, 0] : Fin 3 → ℕ) a := by decide +kernel
theorem poff_eq : ∀ (d : Dev nD) (j : Fin 3) (h : Fin 4) (a : Fin 3), poff d j h a = (![(peerD d j).val, 0, 128 * h.val] : Fin 3 → ℕ) a := by decide +kernel
theorem off7_eq : ∀ (d : Dev nD) (a : Fin 2), k0_off7 d a = (![0, 512 * d.val] : Fin 2 → ℕ) a := by decide +kernel
theorem off8_eq : ∀ (d : Dev nD) (h : Fin 4) (a : Fin 2), k0_off8 d (hw h) a = (![512 * d.val + 128 * h.val, 0] : Fin 2 → ℕ) a := by decide +kernel
theorem off9_eq : ∀ (d : Dev nD) (k : Fin 3) (h : Fin 4) (a : Fin 2),
    k0_off9 d (BitVec.ofNat 32 k.val) (hw h) a = (![512 * (peerD d k).val + 128 * h.val, 0] : Fin 2 → ℕ) a := by decide +kernel

/-! ## Contents -/

/-- A buffer of planes each holding `v`. -/
def B3 {α : Type} {n a b : ℕ} (v : (⟨2, ![a, b]⟩ : Shape).Idx → α) : (⟨3, ![n, a, b]⟩ : Shape).Idx → α := fun i => v (ix2 (i 1) (i 2))

/-- Column group `h` of a matrix of 512 columns, as it is loaded from a plane. -/
def grp {α : Type} (v : S64x512.Idx → α) (h : Fin 4) : S1x64x128.Idx → α := fun i =>
  v (ix2 (i 1) ⟨128 * h.val + (i 2).val, by have := h.isLt; have : (i 2).val < 128 := (i 2).isLt; show _ < 512; omega⟩)

/-- Column block `p` of the first weights. -/
def wcols {α : Type} (w : S1024x2048.Idx → α) (p : Fin 4) : S1024x512.Idx → α := fun i =>
  w (ix2 (i 0) ⟨512 * p.val + (i 1).val, by have := p.isLt; have : (i 1).val < 512 := (i 1).isLt; show _ < 2048; omega⟩)

/-- Row block `(p, h)` of the second weights. -/
def wrows {α : Type} (w : S2048x1024.Idx → α) (p : Fin 4) (h : Fin 4) : S128x1024.Idx → α := fun i =>
  w (ix2 ⟨512 * p.val + 128 * h.val + (i 0).val, by have := p.isLt; have := h.isLt; have : (i 0).val < 128 := (i 0).isLt; show _ < 2048; omega⟩ (i 1))

/-- The own quarter put together from its column groups. -/
def catM {α : Type} (f : Fin 4 → S64x128.Idx → α) : S64x512.Idx → α := fun i =>
  f ⟨(i 1).val / 128, by have : (i 1).val < 512 := (i 1).isLt; omega⟩ (ix2 (i 0) ⟨(i 1).val % 128, Nat.mod_lt _ (by decide)⟩)

/-! ## Places -/

theorem ix3_ext {n a b : ℕ} {i j : (⟨3, ![n, a, b]⟩ : Shape).Idx} (h0 : (i 0).val = (j 0).val) (h1 : (i 1).val = (j 1).val)
    (h2 : (i 2).val = (j 2).val) : i = j := by
  funext c
  match c with
  | ⟨0, _⟩ => exact Fin.ext h0
  | ⟨1, _⟩ => exact Fin.ext h1
  | ⟨2, _⟩ => exact Fin.ext h2
theorem ix2_ext {a b : ℕ} {i j : (⟨2, ![a, b]⟩ : Shape).Idx} (h0 : (i 0).val = (j 0).val) (h1 : (i 1).val = (j 1).val) : i = j := by
  funext c
  match c with
  | ⟨0, _⟩ => exact Fin.ext h0
  | ⟨1, _⟩ => exact Fin.ext h1

/-- Where a squeezed slice of one plane puts its elements. -/
theorem sq_emb {n a b c e : ℕ} (o : Fin 3 → ℕ) (inb) (hq : (⟨2, ![c, e]⟩ : Shape).numel = (⟨3, ![1, c, e]⟩ : Shape).numel) (x : (⟨2, ![c, e]⟩ : Shape).Idx) :
    (((Rect.unit (s := ⟨3, ![n, a, b]⟩) o (⟨3, ![1, c, e]⟩ : Shape).size inb).emb (Shape.reshapeEquiv hq x)) 0).val = o 0
    ∧ (((Rect.unit (s := ⟨3, ![n, a, b]⟩) o (⟨3, ![1, c, e]⟩ : Shape).size inb).emb (Shape.reshapeEquiv hq x)) 1).val = o 1 + (x 0).val
    ∧ (((Rect.unit (s := ⟨3, ![n, a, b]⟩) o (⟨3, ![1, c, e]⟩ : Shape).size inb).emb (Shape.reshapeEquiv hq x)) 2).val = o 2 + (x 1).val := by
  have hx : x = ix2 (x 0) (x 1) := ix2_ext rfl rfl
  have hr : Shape.reshapeEquiv hq x = ix3 (0 : Fin 1) (x 0) (x 1) := (congrArg _ hx).trans (reshapeEquiv_ix2_1ab hq (x 0) (x 1))
  rw [hr]
  refine ⟨?_, ?_, ?_⟩
  · show o 0 + 1 * 0 = o 0; omega
  · show o 1 + 1 * (x 0).val = _; rw [Nat.one_mul]
  · show o 2 + 1 * (x 1).val = _; rw [Nat.one_mul]

variable [Facts]

section Places
variable (d : Dev nD) (j k : Fin 3) (h : Fin 4) (s : Fin 2)

theorem pView_at (x : S64x128.Idx) : (((pView d j h).view.emb x) 1).val = (x 0).val ∧ (((pView d j h).view.emb x) 2).val = 128 * h.val + (x 1).val := by
  have := sq_emb (n := 4) (a := 64) (b := 512) (c := 64) (e := 128) (poff d j h) (poff_inb d j h) (Shape.Squeezes.numel_eq squeezes_S1x64x128_S64x128) x
  have e1 := poff_eq d j h 1; have e2 := poff_eq d j h 2
  exact ⟨this.2.1.trans (by rw [e1]; exact Nat.zero_add _), this.2.2.trans (by rw [e2]; rfl)⟩
theorem rsView_at (x : S64x128.Idx) : (((rsView k h).view.emb x) 1).val = (x 0).val ∧ (((rsView k h).view.emb x) 2).val = 128 * h.val + (x 1).val := by
  have := sq_emb (n := 3) (a := 64) (b := 512) (c := 64) (e := 128) (soff k h) (soff_inb k h) (Shape.Squeezes.numel_eq squeezes_S1x64x128_S64x128) x
  exact ⟨this.2.1.trans (Nat.zero_add _), this.2.2⟩
theorem agView_at (x : S64x128.Idx) : (((agView k h).view.emb x) 1).val = (x 0).val ∧ (((agView k h).view.emb x) 2).val = 128 * h.val + (x 1).val := by
  have := sq_emb (n := 3) (a := 64) (b := 512) (c := 64) (e := 128) (soff k h) (soff_inb k h) (Shape.Squeezes.numel_eq squeezes_S1x64x128_S64x128) x
  exact ⟨this.2.1.trans (Nat.zero_add _), this.2.2⟩
theorem mView_at (x : S64x128.Idx) : (((mView h).view.emb x) 0).val = (x 0).val ∧ (((mView h).view.emb x) 1).val = 128 * h.val + (x 1).val := by
  constructor
  · show 0 + 1 * (x 0).val = _; omega
  · show 128 * h.val + 1 * (x 1).val = _; omega
theorem wiView_at (x : S1024x2048.Idx) : (((wiView s).view.emb x) 1).val = (x 0).val ∧ (((wiView s).view.emb x) 2).val = (x 1).val := by
  have := sq_emb (n := 2) (a := 1024) (b := 2048) (c := 1024) (e := 2048) (woff s) (woff_inb s) (Shape.Squeezes.numel_eq squeezes_S1x1024x2048_S1024x2048) x
  exact ⟨this.2.1.trans (Nat.zero_add _), this.2.2.trans (Nat.zero_add _)⟩
theorem woView_at (x : S2048x1024.Idx) : (((woView s).view.emb x) 1).val = (x 0).val ∧ (((woView s).view.emb x) 2).val = (x 1).val := by
  have := sq_emb (n := 2) (a := 2048) (b := 1024) (c := 2048) (e := 1024) (woff s) (woff_inb' s) (Shape.Squeezes.numel_eq squeezes_S1x2048x1024_S2048x1024) x
  exact ⟨this.2.1.trans (Nat.zero_add _), this.2.2.trans (Nat.zero_add _)⟩

/-! ## The sets of elements -/

theorem mem_pView (i : S4x64x512.Idx) : i ∈ (pView d j h).view.set ↔ (i 0).val = (peerD d j).val ∧ (i 2).val / 128 = h.val := by
  rw [View.set_reshape, View.set_slice_whole, Rect.mem_set_unit]
  have e0 := poff_eq d j h 0; have e1 := poff_eq d j h 1; have e2 := poff_eq d j h 2
  constructor
  · intro H
    have h0 : poff d j h 0 ≤ (i 0).val ∧ (i 0).val < poff d j h 0 + 1 := H 0
    have h2 : poff d j h 2 ≤ (i 2).val ∧ (i 2).val < poff d j h 2 + 128 := H 2
    rw [e0] at h0; rw [e2] at h2
    change (peerD d j).val ≤ _ ∧ _ < (peerD d j).val + 1 at h0
    change 128 * h.val ≤ _ ∧ _ < 128 * h.val + 128 at h2
    omega
  · rintro ⟨h0, h2⟩ a
    have l1 : (i 1).val < 64 := (i 1).isLt
    match a with
    | ⟨0, _⟩ => show poff d j h 0 ≤ (i 0).val ∧ (i 0).val < poff d j h 0 + 1; rw [e0]; show (peerD d j).val ≤ _ ∧ _ < (peerD d j).val + 1; omega
    | ⟨1, _⟩ => show poff d j h 1 ≤ (i 1).val ∧ (i 1).val < poff d j h 1 + 64; rw [e1]; show 0 ≤ _ ∧ _ < 0 + 64; omega
    | ⟨2, _⟩ => show poff d j h 2 ≤ (i 2).val ∧ (i 2).val < poff d j h 2 + 128; rw [e2]; show 128 * h.val ≤ _ ∧ _ < 128 * h.val + 128; omega

theorem mem_slot (i : S3x64x512.Idx) : i ∈ (Rect.unit (s := S3x64x512) (soff k h) S1x64x128.size (soff_inb k h)).set ↔ (i 0).val = k.val ∧ (i 2).val / 128 = h.val := by
  rw [Rect.mem_set_unit]
  constructor
  · intro H
    have h0 : k.val ≤ (i 0).val ∧ (i 0).val < k.val + 1 := H 0
    have h2 : 128 * h.val ≤ (i 2).val ∧ (i 2).val < 128 * h.val + 128 := H 2
    omega
  · rintro ⟨h0, h2⟩ a
    have l1 : (i 1).val < 64 := (i 1).isLt
    match a with
    | ⟨0, _⟩ => show k.val ≤ (i 0).val ∧ (i 0).val < k.val + 1; omega
    | ⟨1, _⟩ => show 0 ≤ (i 1).val ∧ (i 1).val < 0 + 64; omega
    | ⟨2, _⟩ => show 128 * h.val ≤ (i 2).val ∧ (i 2).val < 128 * h.val + 128; omega
theorem mem_rsView (i : S3x64x512.Idx) : i ∈ (rsView k h).view.set ↔ (i 0).val = k.val ∧ (i 2).val / 128 = h.val := by
  rw [View.set_reshape, View.set_slice_whole]; exact mem_slot k h i
theorem mem_agView (i : S3x64x512.Idx) : i ∈ (agView k h).view.set ↔ (i 0).val = k.val ∧ (i 2).val / 128 = h.val := by
  rw [View.set_reshape, View.set_slice_whole]; exact mem_slot k h i
theorem mem_mView (i : S64x512.Idx) : i ∈ (mView h).view.set ↔ (i 1).val / 128 = h.val := by
  rw [show (mView h).view.set = _ from View.set_slice_whole cc0_scratch4 _, Rect.mem_set_unit]
  constructor
  · intro H
    have h1 : 128 * h.val ≤ (i 1).val ∧ (i 1).val < 128 * h.val + 128 := H 1
    omega
  · rintro h1 a
    have l0 : (i 0).val < 64 := (i 0).isLt
    match a with
    | ⟨0, _⟩ => show 0 ≤ (i 0).val ∧ (i 0).val < 0 + 64; omega
    | ⟨1, _⟩ => show 128 * h.val ≤ (i 1).val ∧ (i 1).val < 128 * h.val + 128; omega
theorem mem_wiView (i : S2x1024x2048.Idx) : i ∈ (wiView s).view.set ↔ (i 0).val = s.val := by
  rw [View.set_reshape, View.set_slice_whole, Rect.mem_set_unit]
  constructor
  · intro H
    have h0 : s.val ≤ (i 0).val ∧ (i 0).val < s.val + 1 := H 0
    omega
  · rintro h0 a
    have l1 : (i 1).val < 1024 := (i 1).isLt
    have l2 : (i 2).val < 2048 := (i 2).isLt
    match a with
    | ⟨0, _⟩ => show s.val ≤ (i 0).val ∧ (i 0).val < s.val + 1; omega
    | ⟨1, _⟩ => show 0 ≤ (i 1).val ∧ (i 1).val < 0 + 1024; omega
    | ⟨2, _⟩ => show 0 ≤ (i 2).val ∧ (i 2).val < 0 + 2048; omega
theorem mem_woView (i : S2x2048x1024.Idx) : i ∈ (woView s).view.set ↔ (i 0).val = s.val := by
  rw [View.set_reshape, View.set_slice_whole, Rect.mem_set_unit]
  constructor
  · intro H
    have h0 : s.val ≤ (i 0).val ∧ (i 0).val < s.val + 1 := H 0
    omega
  · rintro h0 a
    have l1 : (i 1).val < 2048 := (i 1).isLt
    have l2 : (i 2).val < 1024 := (i 2).isLt
    match a with
    | ⟨0, _⟩ => show s.val ≤ (i 0).val ∧ (i 0).val < s.val + 1; omega
    | ⟨1, _⟩ => show 0 ≤ (i 1).val ∧ (i 1).val < 0 + 2048; omega
    | ⟨2, _⟩ => show 0 ≤ (i 2).val ∧ (i 2).val < 0 + 1024; omega

/-- The plane of the partial for peer `j`. -/
def plane : Finset S4x64x512.Idx := Finset.univ.biUnion fun h : Fin 4 => (pView d j h).view.set

theorem mem_plane (i : S4x64x512.Idx) : i ∈ plane d j ↔ (i 0).val = (peerD d j).val := by
  unfold plane
  rw [Finset.mem_biUnion]
  constructor
  · rintro ⟨h, -, H⟩; exact ((mem_pView d j h i).mp H).1
  · intro H
    have l2 : (i 2).val < 512 := (i 2).isLt
    exact ⟨⟨(i 2).val / 128, by omega⟩, Finset.mem_univ _, (mem_pView d j _ i).mpr ⟨H, rfl⟩⟩

end Places

/-! ## Stores, copies and loads keep to the contents -/

section Keep
variable {F : FTy → Type} [FloatOps F]
variable (d : Dev nD) (j k : Fin 3) (h : Fin 4) (s : Fin 2)

/-- A copy of a column group of the partial lands as the column group of the matrix. -/
theorem copy_p (v : S64x512.Idx → Elt F .bf16) (fd : S3x64x512.Idx → Elt F .bf16) (i : S3x64x512.Idx) (hi : i ∈ (rsView k h).view.set) :
    (rsView k h).view.write (Elt F) fd ((pView d j h).view.read (Elt F) (B3 v : S4x64x512.Idx → Elt F .bf16)) Finset.univ i = (B3 v : S3x64x512.Idx → Elt F .bf16) i := by
  obtain ⟨x, -, rfl⟩ := Finset.mem_map.mp hi
  refine (View.write_emb_of_mem _ _ (Finset.mem_univ x)).trans ?_
  have hp := pView_at d j h x; have hr := rsView_at k h x
  exact congrArg v (ix2_ext (hp.1.trans hr.1.symm) (hp.2.trans hr.2.symm))

/-- A copy of a column group of the own quarter lands as the column group of the matrix. -/
theorem copy_m (v : S64x512.Idx → Elt F .bf16) (fd : S3x64x512.Idx → Elt F .bf16) (i : S3x64x512.Idx) (hi : i ∈ (agView k h).view.set) :
    (agView k h).view.write (Elt F) fd ((mView h).view.read (Elt F) v) Finset.univ i = (B3 v : S3x64x512.Idx → Elt F .bf16) i := by
  obtain ⟨x, -, rfl⟩ := Finset.mem_map.mp hi
  refine (View.write_emb_of_mem _ _ (Finset.mem_univ x)).trans ?_
  have hp := mView_at h x; have hr := agView_at k h x
  exact congrArg v (ix2_ext (hp.1.trans hr.1.symm) (hp.2.trans hr.2.symm))

/-- A fetch of the weights fills a slot with them. -/
theorem copy_wi (v : S1024x2048.Idx → Elt F .f32) (fd : S2x1024x2048.Idx → Elt F .f32) (i : S2x1024x2048.Idx) (hi : i ∈ (wiView s).view.set) :
    (wiView s).view.write (Elt F) fd v Finset.univ i = (B3 v : S2x1024x2048.Idx → Elt F .f32) i := by
  obtain ⟨x, -, rfl⟩ := Finset.mem_map.mp hi
  refine (View.write_emb_of_mem _ _ (Finset.mem_univ x)).trans ?_
  have hr := wiView_at s x
  exact congrArg v (ix2_ext hr.1.symm hr.2.symm)
theorem copy_wo (v : S2048x1024.Idx → Elt F .f32) (fd : S2x2048x1024.Idx → Elt F .f32) (i : S2x2048x1024.Idx) (hi : i ∈ (woView s).view.set) :
    (woView s).view.write (Elt F) fd v Finset.univ i = (B3 v : S2x2048x1024.Idx → Elt F .f32) i := by
  obtain ⟨x, -, rfl⟩ := Finset.mem_map.mp hi
  refine (View.write_emb_of_mem _ _ (Finset.mem_univ x)).trans ?_
  have hr := woView_at s x
  exact congrArg v (ix2_ext hr.1.symm hr.2.symm)

/-- The store of a partial writes its plane. -/
theorem store_p_sub : ((Memref.whole cc0_scratch2).access (Rect.unit (s := S4x64x512) (k0_off2 d (ow j)) S1x64x512.size (off2_inb d j))).setOn Finset.univ ⊆ plane d j := by
  intro i hi
  obtain ⟨x, -, rfl⟩ := Finset.mem_map.mp hi
  refine (mem_plane d j _).mpr ?_
  have e0 := off2_eq d j 0
  have l0 : (x 0).val < 1 := (x 0).isLt
  show k0_off2 d (ow j) 0 + 1 * (x 0).val = _
  rw [e0]; show (peerD d j).val + 1 * (x 0).val = _; omega
theorem store_p_emb (i : S4x64x512.Idx) (hi : i ∈ plane d j) :
    ∃ x : S1x64x512.Idx, ((Memref.whole cc0_scratch2).access (Rect.unit (s := S4x64x512) (k0_off2 d (ow j)) S1x64x512.size (off2_inb d j))).emb x = i := by
  have hi0 := (mem_plane d j i).mp hi
  have e0 := off2_eq d j 0; have e1 := off2_eq d j 1; have e2 := off2_eq d j 2
  refine ⟨ix3 (0 : Fin 1) (i 1) (i 2), ?_⟩
  refine ix3_ext ?_ ?_ ?_
  · show k0_off2 d (ow j) 0 + 1 * 0 = (i 0).val; rw [e0, hi0]; rfl
  · show k0_off2 d (ow j) 1 + 1 * (i 1).val = (i 1).val; rw [e1]; show 0 + 1 * (i 1).val = _; omega
  · show k0_off2 d (ow j) 2 + 1 * (i 2).val = (i 2).val; rw [e2]; show 0 + 1 * (i 2).val = _; omega
theorem store_p (p : S64x512.Idx → Elt F .bf16) (f : S4x64x512.Idx → Elt F .bf16) (hs : S64x512.ShapeCasts S1x64x512) (i : S4x64x512.Idx) (hi : i ∈ plane d j) :
    ((Memref.whole cc0_scratch2).access (Rect.unit (s := S4x64x512) (k0_off2 d (ow j)) S1x64x512.size (off2_inb d j))).write (Elt F) f
      (shapeCast S1x64x512 p hs) Finset.univ i = (B3 p : S4x64x512.Idx → Elt F .bf16) i := by
  obtain ⟨x, rfl⟩ := store_p_emb d j i hi
  have e1 := off2_eq d j 1; have e2 := off2_eq d j 2
  refine (View.write_emb_of_mem (Val := Elt F) (v := ((Memref.whole cc0_scratch2).access (Rect.unit (s := S4x64x512) (k0_off2 d (ow j)) S1x64x512.size (off2_inb d j)))) f
    (shapeCast S1x64x512 p hs) (Finset.mem_univ x)).trans ?_
  have hx : x = ix3 (0 : Fin 1) (x 1) (x 2) := by
    have l0 : (x 0).val < 1 := (x 0).isLt
    refine ix3_ext ?_ rfl rfl
    show (x 0).val = 0; omega
  have hv : shapeCast S1x64x512 p hs x = p (ix2 (x 1) (x 2)) :=
    (congrArg (shapeCast S1x64x512 p hs) hx).trans (shapeCast_ab_1ab_apply p hs (0 : Fin 1) (x 1) (x 2))
  refine Eq.trans (b := shapeCast S1x64x512 p hs x) rfl (hv.trans ?_)
  refine congrArg p (ix2_ext ?_ ?_)
  · show (x 1).val = k0_off2 d (ow j) 1 + 1 * (x 1).val; rw [e1]; show _ = 0 + 1 * (x 1).val; omega
  · show (x 2).val = k0_off2 d (ow j) 2 + 1 * (x 2).val; rw [e2]; show _ = 0 + 1 * (x 2).val; omega

/-- The store of a column group of the own quarter. -/
theorem store_m_sub : ((Memref.whole cc0_scratch4).access (Rect.unit (s := S64x512) (moff h) S64x128.size (moff_inb h))).setOn Finset.univ ⊆ (mView h).view.set := fun _ hi => hi
theorem store_m (w : Fin 4 → S64x128.Idx → Elt F .bf16) (f : S64x512.Idx → Elt F .bf16) (i : S64x512.Idx) (hi : i ∈ (mView h).view.set) :
    ((Memref.whole cc0_scratch4).access (Rect.unit (s := S64x512) (moff h) S64x128.size (moff_inb h))).write (Elt F) f (w h) Finset.univ i = catM w i := by
  obtain ⟨x, -, rfl⟩ := Finset.mem_map.mp hi
  refine (View.write_emb_of_mem (Val := Elt F) (v := ((Memref.whole cc0_scratch4).access (Rect.unit (s := S64x512) (moff h) S64x128.size (moff_inb h)))) f (w h) (Finset.mem_univ x)).trans ?_
  have hp := mView_at h x
  have l1 : (x 1).val < 128 := (x 1).isLt
  show w h x = w _ (ix2 _ _)
  have hh : (⟨(((mView h).view.emb x) 1).val / 128, by rw [hp.2]; have := h.isLt; omega⟩ : Fin 4) = h := Fin.ext (by show _ / 128 = h.val; rw [hp.2]; omega)
  refine (congrArg (fun q => w q x) hh.symm).trans ?_
  refine congrArg (w _) (ix2_ext hp.1.symm ?_)
  show (x 1).val = (((mView h).view.emb x) 1).val % 128
  rw [hp.2]; omega

/-- The load of an arrived column group. -/
theorem load_rs (v : S64x512.Idx → Elt F .bf16) :
    (Memref.whole cc0_scratch3).view.readAt (Elt F) (Rect.unit (s := S3x64x512) (soff k h) S1x64x128.size (soff_inb k h)).toLoadRect (B3 v : S3x64x512.Idx → Elt F .bf16) = grp v h := by
  funext x
  exact congrArg v (ix2_ext (by show 0 + 1 * (x 1).val = (x 1).val; omega) (by show 128 * h.val + 1 * (x 2).val = 128 * h.val + (x 2).val; omega))
theorem load_ag (v : S64x512.Idx → Elt F .bf16) :
    (Memref.whole cc0_scratch5).view.readAt (Elt F) (Rect.unit (s := S3x64x512) (soff k h) S1x64x128.size (soff_inb k h)).toLoadRect (B3 v : S3x64x512.Idx → Elt F .bf16) = grp v h := by
  funext x
  exact congrArg v (ix2_ext (by show 0 + 1 * (x 1).val = (x 1).val; omega) (by show 128 * h.val + 1 * (x 2).val = 128 * h.val + (x 2).val; omega))
theorem load_rs_sub : (Memref.whole cc0_scratch3).view.setOn (Rect.unit (s := S3x64x512) (soff k h) S1x64x128.size (soff_inb k h)).toLoadRect.set ⊆ (rsView k h).view.set := by
  rw [View.set_reshape, View.set_slice_whole]
  intro i hi
  obtain ⟨x, hx, rfl⟩ := Finset.mem_map.mp hi
  exact hx
theorem load_ag_sub : (Memref.whole cc0_scratch5).view.setOn (Rect.unit (s := S3x64x512) (soff k h) S1x64x128.size (soff_inb k h)).toLoadRect.set ⊆ (agView k h).view.set := by
  rw [View.set_reshape, View.set_slice_whole]
  intro i hi
  obtain ⟨x, hx, rfl⟩ := Finset.mem_map.mp hi
  exact hx
theorem load_p_sub : (Memref.whole cc0_scratch2).view.setOn (Rect.unit (s := S4x64x512) (k0_off2 d (ow j)) S1x64x512.size (off2_inb d j)).toLoadRect.set ⊆ plane d j := by
  intro i hi
  obtain ⟨x, hx, rfl⟩ := Finset.mem_map.mp hi
  refine (mem_plane d j _).mpr ?_
  have h0 : k0_off2 d (ow j) 0 ≤ (x 0).val ∧ (x 0).val < k0_off2 d (ow j) 0 + 1 := Rect.mem_set_unit.mp hx 0
  have e0 := off2_eq d j 0
  rw [e0] at h0
  change (peerD d j).val ≤ _ ∧ _ < (peerD d j).val + 1 at h0
  show (x 0).val = _
  omega
theorem load_m_sub : (Memref.whole cc0_scratch4).view.setOn (Rect.unit (s := S64x512) (moff h) S64x128.size (moff_inb h)).toLoadRect.set ⊆ (mView h).view.set := by
  rw [show (mView h).view.set = _ from View.set_slice_whole cc0_scratch4 _]
  intro i hi
  obtain ⟨x, hx, rfl⟩ := Finset.mem_map.mp hi
  exact hx

/-- The loads of the weights. -/
theorem load_wi (w : S1024x2048.Idx → Elt F .f32) (o : Fin 2 → ℕ) (inb) (p : Fin 4) (ho : ∀ a, o a = (![0, 512 * p.val] : Fin 2 → ℕ) a) :
    (wiView s).view.readAt (Elt F) (Rect.unit (s := S1024x2048) o S1024x512.size inb).toLoadRect (B3 w : S2x1024x2048.Idx → Elt F .f32) = wcols w p := by
  funext x
  have e0 := ho 0; have e1 := ho 1
  have hr := wiView_at s ((Rect.unit (s := S1024x2048) o S1024x512.size inb).toLoadRect.idx x)
  refine congrArg w (ix2_ext (hr.1.trans ?_) (hr.2.trans ?_))
  · show o 0 + 1 * (x 0).val = (x 0).val; rw [e0]; show 0 + 1 * (x 0).val = _; omega
  · show o 1 + 1 * (x 1).val = 512 * p.val + (x 1).val; rw [e1]; show 512 * p.val + 1 * (x 1).val = _; omega
theorem load_wo (w : S2048x1024.Idx → Elt F .f32) (o : Fin 2 → ℕ) (inb) (p : Fin 4) (ho : ∀ a, o a = (![512 * p.val + 128 * h.val, 0] : Fin 2 → ℕ) a) :
    (woView s).view.readAt (Elt F) (Rect.unit (s := S2048x1024) o S128x1024.size inb).toLoadRect (B3 w : S2x2048x1024.Idx → Elt F .f32) = wrows w p h := by
  funext x
  have e0 := ho 0; have e1 := ho 1
  have hr := woView_at s ((Rect.unit (s := S2048x1024) o S128x1024.size inb).toLoadRect.idx x)
  refine congrArg w (ix2_ext (hr.1.trans ?_) (hr.2.trans ?_))
  · show o 0 + 1 * (x 0).val = 512 * p.val + 128 * h.val + (x 0).val; rw [e0]; show 512 * p.val + 128 * h.val + 1 * (x 0).val = _; omega
  · show o 1 + 1 * (x 1).val = (x 1).val; rw [e1]; show 0 + 1 * (x 1).val = _; omega
theorem load_w_sub {sp : Space} {sh : Shape} {e : EltTy} (v : View sig .tc sp sh e) (r : LoadRect sh) : v.setOn r.set ⊆ v.set := View.setOn_subset_set _ _

end Keep

end Cert.KernelIdeal.Mlp
-- ==== Proof.Common.lean ====
/-
  The protocol of the exchanges: the cells, the values each round hands over, the schedule, what
  a device still owes at each point of its program, and the levels that make its waits safe.
-/
module

public import proofs.«01_k».proof.Proof.Vals
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Facts₀ Cert.KernelIdeal.Facts

variable {F : FTy → Type} [FloatOps F]

/-! ## The resource algebra: the pipeline library's copy and the exchanges' (three duties) -/

abbrev UX : Type := URounds (GSem nD τ sig) (Fin 3)
abbrev UU : Type := UR sig nD τ × UX

local notation "𝕄" => MT nD τ sig ℕ (Elt F) ℕ UU ℕ

abbrev EP : Emb (UR sig nD τ) (MT nD τ sig ℕ (Elt F) ℕ UU ℕ) := embL
abbrev ER : Emb UX (MT nD τ sig ℕ (Elt F) ℕ UU ℕ) := embR

/-! ## The cells -/

/-- The barrier, the weight fetches (slot, which), the exchanges (kind, peer or slot, column group). -/
abbrev Ki : Type := Option ((Fin 2 × Fin 2) ⊕ (Fin 4 × Fin 3 × Fin 4))
/-- The semaphores scoped to the kernel among them. -/
def osem : (Fin 2 × Fin 2) ⊕ (Fin 4 × Fin 3 × Fin 4) → SemLoc sig
  | .inl (s, b) => .dma (wSem s b)
  | .inr (t, j, h) => .dma ((![rsS j h, rsR j h, agS j h, agR j h] : Fin 4 → DmaSem sig) t)
def csem : Ki → SemLoc sig
  | none => .reg barrier0
  | some k => osem k
abbrev kB : Ki := none
abbrev kW (s b : Fin 2) : Ki := some (.inl (s, b))
abbrev kX (t : Fin 4) (j : Fin 3) (h : Fin 4) : Ki := some (.inr (t, j, h))
abbrev cell (c : Dev nD) (k : Ki) : GSem nD τ sig := ((c : Thread nD τ), csem k)

theorem osem_inj : ∀ a b, osem a = osem b → a = b := by decide +kernel
theorem csem_inj : Function.Injective csem := by
  intro a b h
  match a, b with
  | none, none => rfl
  | some a, some b => exact congrArg some (osem_inj a b h)
  | none, some (.inl _) => exact absurd h (fun h => by cases h)
  | none, some (.inr _) => exact absurd h (fun h => by cases h)
  | some (.inl _), none => exact absurd h (fun h => by cases h)
  | some (.inr _), none => exact absurd h (fun h => by cases h)

/-- Which of the cells a semaphore is. -/
def dec : SemLoc sig → Option Ki := Function.partialInv csem
theorem dec_csem (k : Ki) : dec (csem k) = some k := Function.partialInv_left csem_inj k

/-- The bytes a copy of one column group is counted by, and a fetch of weights. -/
abbrev N : ℕ := (rsView 0 0).view.dmaCredit
theorem N_pos : 0 < N := View.dmaCredit_pos _ (by decide)
abbrev NW (b : Fin 2) : ℕ := if b = 0 then (wiView 0).view.dmaCredit else (woView 0).view.dmaCredit
theorem NW_pos (b : Fin 2) : 0 < NW b := by
  unfold NW; split
  · exact View.dmaCredit_pos _ (by decide)
  · exact View.dmaCredit_pos _ (by decide)

/-! ## The values -/

/-- What the run starts from: each layer's weights on each device, and each device's input. -/
structure Inp (F : FTy → Type) where
  wi : ℕ → Dev nD → S1024x2048.Idx → Elt F .f32
  wo : ℕ → Dev nD → S2048x1024.Idx → Elt F .f32
  x0 : Dev nD → FVec F S64x1024 .f32

/-- Values carried through a loop's steps in order. -/
def lpv {α : Type} : (n : ℕ) → (Fin n → α → α) → α → α
  | 0, _, a => a
  | n + 1, f, a => lpv n (fun i => f i.succ) (f 0 a)

/-- The partial product of device `c`'s rows with column block `p` of the first weights. -/
def pv (x : FVec F S64x1024 .f32) (wi : S1024x2048.Idx → Elt F .f32) (p : Dev nD) : FVec F S64x512 .bf16 := truncf .bf16 (dotP x (wcols wi p)) bitsLt_bf16_f32
/-- The sum of the four partials, column group `h` of the own quarter. -/
def accv (own : FVec F S64x512 .f32) (P : Fin 3 → S64x512.Idx → Elt F .bf16) (h : Fin 4) : FVec F S64x128 .f32 :=
  lpv 3 (fun i a => addf a (ext (grp (P (ordR i)) h))) (extractStridedSlice S64x128 (moff h) own (slices_h h))
/-- A layer's output from the own sums and the arrived quarters. -/
def outv (own : Fin 4 → FVec F S64x128 .f32) (M : Fin 3 → S64x512.Idx → Elt F .bf16) (wo : S2048x1024.Idx → Elt F .f32) (c : Dev nD) : FVec F S64x1024 .f32 :=
  lpv 4 (fun h y => lpv 3 (fun i y => addf y (dotO (ext (grp (M (ordR i)) h)) (wrows wo (peerD c (ordR i)) h))) y)
    (lpv 4 (fun h y => addf y (dotO (relu (own h)) (wrows wo c h))) (broadcast S64x1024 (Scalar.ofBits .f32 0x00000000#32)))

section Values
variable (D : Inp F)
/-- One layer on all devices. -/
def ownv (X : Dev nD → FVec F S64x1024 .f32) (l : ℕ) (c : Dev nD) (h : Fin 4) : FVec F S64x128 .f32 :=
  accv (dotP (X c) (wcols (D.wi l c) c)) (fun k => pv (X (peerD c k)) (D.wi l (peerD c k)) c) h
def qv (X : Dev nD → FVec F S64x1024 .f32) (l : ℕ) (c : Dev nD) : S64x512.Idx → Elt F .bf16 := catM fun h => packM (relu (ownv D X l c h))
def nextX (X : Dev nD → FVec F S64x1024 .f32) (l : ℕ) (c : Dev nD) : FVec F S64x1024 .f32 :=
  outv (ownv D X l c) (fun k => qv D X l (peerD c k)) (D.wo l c) c
/-- The input of layer `l` on each device. -/
def XV : ℕ → Dev nD → FVec F S64x1024 .f32
  | 0 => D.x0
  | l + 1 => nextX D (XV l) l
/-- The partial device `c` makes for device `p` in layer `l`, and device `c`'s own quarter. -/
def PV (l : ℕ) (c p : Dev nD) : S64x512.Idx → Elt F .bf16 := pv (XV D l c) (D.wi l c) p
def MV (l : ℕ) (c : Dev nD) : S64x512.Idx → Elt F .bf16 := qv D (XV D l) l c
end Values

/-! ## The regions -/

section Regions
variable (c : Dev nD) (j k : Fin 3) (h : Fin 4) (s : Fin 2)
abbrev tc (c : Dev nD) : Thread nD τ := Dev.tc c

def rsPts (f : S3x64x512.Idx → Elt F .bf16) : sProp 𝕄 := (rsView k h).view.loc (tc c) ↦[(rsView k h).view.set]{fullShare} f
def agPts (f : S3x64x512.Idx → Elt F .bf16) : sProp 𝕄 := (agView k h).view.loc (tc c) ↦[(agView k h).view.set]{fullShare} f
def pPts (f : S4x64x512.Idx → Elt F .bf16) : sProp 𝕄 := (pView c j h).view.loc (tc c) ↦[(pView c j h).view.set]{fullShare} f
def mPts (q : PosShare TreeShare) (f : S64x512.Idx → Elt F .bf16) : sProp 𝕄 := (mView h).view.loc (tc c) ↦[(mView h).view.set]{q} f
def wiPts (f : S2x1024x2048.Idx → Elt F .f32) : sProp 𝕄 := (wiView s).view.loc (tc c) ↦[(wiView s).view.set]{fullShare} f
def woPts (f : S2x2048x1024.Idx → Elt F .f32) : sProp 𝕄 := (woView s).view.loc (tc c) ↦[(woView s).view.set]{fullShare} f
def planePts (f : S4x64x512.Idx → Elt F .bf16) : sProp 𝕄 := ((tc c).loc cc0_scratch2) ↦[plane c j]{fullShare} f

/-- A free receive slot of device `c`, its cell at round `r`. -/
def rsFree (r : ℕ) : sProp 𝕄 := iprop((∃ f, rsPts c k h f) ∗ reached ER (cell c (kX 1 k h)) r)
def agFree (r : ℕ) : sProp 𝕄 := iprop((∃ f, agPts c k h f) ∗ reached ER (cell c (kX 3 k h)) r)

/-- The share of the own quarter a copy to peer `j` reads. -/
def qsh : Fin 3 → PosShare TreeShare := ![fullShare.left, fullShare.right.left, fullShare.right.right]

instance (f) : BI.Storable (upEmb : UEmb _ 𝕄) (rsPts (F := F) c k h f) := by unfold rsPts; infer_instance
instance (f) : BI.Storable (upEmb : UEmb _ 𝕄) (agPts (F := F) c k h f) := by unfold agPts; infer_instance
instance (f) : BI.Storable (upEmb : UEmb _ 𝕄) (pPts (F := F) c j h f) := by unfold pPts; infer_instance
instance (q) (f) : BI.Storable (upEmb : UEmb _ 𝕄) (mPts (F := F) c h q f) := by unfold mPts; infer_instance
instance (f) : BI.Storable (upEmb : UEmb _ 𝕄) (wiPts (F := F) c s f) := by unfold wiPts; infer_instance
instance (f) : BI.Storable (upEmb : UEmb _ 𝕄) (woPts (F := F) c s f) := by unfold woPts; infer_instance
instance (r) : BI.Storable (upEmb : UEmb _ 𝕄) (rsFree (F := F) c k h r) := by unfold rsFree; infer_instance
instance (r) : BI.Storable (upEmb : UEmb _ 𝕄) (agFree (F := F) c k h r) := by unfold agFree; infer_instance
end Regions

section Weights
variable (D : Inp F) (c : Dev nD)
/-- A layer's weights in the device's memory. -/
def argI : ℕ → sProp 𝕄
  | 0 => ((tc c).loc main_arg1) ↦{fullShare} (D.wi 0 c)
  | 1 => ((tc c).loc main_arg2) ↦{fullShare} (D.wi 1 c)
  | _ => ((tc c).loc main_arg3) ↦{fullShare} (D.wi 2 c)
def argO : ℕ → sProp 𝕄
  | 0 => ((tc c).loc main_arg4) ↦{fullShare} (D.wo 0 c)
  | 1 => ((tc c).loc main_arg5) ↦{fullShare} (D.wo 1 c)
  | _ => ((tc c).loc main_arg6) ↦{fullShare} (D.wo 2 c)
instance (l : ℕ) : BI.Storable (upEmb : UEmb _ 𝕄) (argI D c l) := by
  match l with
  | 0 => show BI.Storable upEmb (((tc c).loc main_arg1) ↦{fullShare} (D.wi 0 c) : sProp 𝕄); infer_instance
  | 1 => show BI.Storable upEmb (((tc c).loc main_arg2) ↦{fullShare} (D.wi 1 c) : sProp 𝕄); infer_instance
  | _ + 2 => show BI.Storable upEmb (((tc c).loc main_arg3) ↦{fullShare} (D.wi 2 c) : sProp 𝕄); infer_instance
instance (l : ℕ) : BI.Storable (upEmb : UEmb _ 𝕄) (argO D c l) := by
  match l with
  | 0 => show BI.Storable upEmb (((tc c).loc main_arg4) ↦{fullShare} (D.wo 0 c) : sProp 𝕄); infer_instance
  | 1 => show BI.Storable upEmb (((tc c).loc main_arg5) ↦{fullShare} (D.wo 1 c) : sProp 𝕄); infer_instance
  | _ + 2 => show BI.Storable upEmb (((tc c).loc main_arg6) ↦{fullShare} (D.wo 2 c) : sProp 𝕄); infer_instance
/-- The layer whose weights round `r` of slot `s` brings. -/
def lay (s : Fin 2) (r : ℕ) : ℕ := if s = 0 then 2 * r else 1
def wPay (s b : Fin 2) (r : ℕ) : sProp 𝕄 :=
  if b = 0 then iprop(wiPts c s (B3 (D.wi (lay s r) c)) ∗ argI D c (lay s r)) else iprop(woPts c s (B3 (D.wo (lay s r) c)) ∗ argO D c (lay s r))
instance (s b : Fin 2) (r : ℕ) : BI.Storable (upEmb : UEmb _ 𝕄) (wPay D c s b r) := by unfold wPay; split <;> infer_instance
end Weights

/-! ## The schedule -/

section Sched
variable (D : Inp F)

/-- What each round of a cell of device `A` hands over. -/
def payK (A : Dev nD) : Ki → ℕ → Fin 3 → sProp 𝕄
  | none, _, k => bigSep Finset.univ fun h : Fin 4 => rsFree (peerD A k) k.rev h 0
  | some (.inl (s, b)), r, _ => wPay D A s b r
  | some (.inr (t, j, h)), l, _ =>
    if t = 0 then pPts A j h (B3 (PV D l A (peerD A j)))
    else if t = 1 then iprop(rsPts A j h (B3 (PV D l (peerD A j) A)) ∗ agFree (peerD A j) j.rev h l)
    else if t = 2 then mPts A h (qsh j) (MV D l A)
    else iprop(agPts A j h (B3 (MV D l (peerD A j))) ∗ (if l < 2 then rsFree (peerD A j) j.rev h (l + 1) else emp))

def dutK : Ki → ℕ → Finset (Fin 3)
  | none, r => if r < 1 then Finset.univ else ∅
  | some (.inl (s, _)), r => if r < (if s = 0 then 2 else 1) then {0} else ∅
  | some (.inr _), r => if r < 3 then {0} else ∅

def amtK : Ki → ℕ
  | none => 1
  | some (.inl (_, b)) => NW b
  | some (.inr _) => N

theorem amtK_pos (k : Ki) : 0 < amtK k := by
  match k with
  | none => exact Nat.one_pos
  | some (.inl (_, b)) => exact NW_pos b
  | some (.inr _) => exact N_pos

def Rd : Rounds.Schedule (GSem nD τ sig) (Fin 3) 𝕄 where
  duties g r := if g.1.2 = .tc then (match dec g.2 with | some k => dutK k r | none => ∅) else ∅
  unitless _ := False
  amount g _ _ := match dec g.2 with | some k => amtK k | none => 1
  payload g r d := match dec g.2 with | some k => payK D g.1.1 k r d | none => iprop(emp)
  amount_pos g _ _ _ := by
    match dec g.2 with
    | some k => exact amtK_pos k
    | none => exact Nat.one_pos

instance payK_storable (A : Dev nD) (k : Ki) (r : ℕ) (d : Fin 3) : BI.Storable (upEmb : UEmb _ 𝕄) (payK D A k r d) := by
  match k with
  | none => unfold payK; infer_instance
  | some (.inl (s, b)) => unfold payK; infer_instance
  | some (.inr (t, j, h)) => unfold payK; (repeat' split) <;> infer_instance
instance Rd_storable (g : GSem nD τ sig) (r : ℕ) (d : Fin 3) : BI.Storable (upEmb : UEmb _ 𝕄) ((Rd D).payload g r d) := by
  show BI.Storable upEmb (match dec g.2 with | some k => payK D g.1.1 k r d | none => iprop(emp))
  split <;> infer_instance

variable (c : Dev nD) (k : Ki) (r : ℕ) (d : Fin 3)
theorem duties_cell : (Rd D).duties (cell c k) r = dutK k r := by
  show (if (tc c).2 = .tc then (match dec (csem k) with | some k => dutK k r | none => ∅) else ∅) = dutK k r
  rw [if_pos rfl, dec_csem]
theorem amount_cell : (Rd D).amount (cell c k) r d = amtK k := by
  show (match dec (csem k) with | some k => amtK k | none => 1) = amtK k
  rw [dec_csem]
theorem payload_cell : (Rd D).payload (cell c k) r d = payK D c k r d := by
  show (match dec (csem k) with | some k => payK D c k r d | none => iprop(emp)) = payK D c k r d
  rw [dec_csem]
theorem expect_one (hk : dutK k r = {0}) : (Rd D).expect (cell c k) r = amtK k := by
  unfold Schedule.expect Schedule.amountOf
  rw [duties_cell, hk, Finset.sum_singleton, amount_cell]
theorem expect_bar : (Rd D).expect (cell c kB) 0 = 3 := by
  unfold Schedule.expect Schedule.amountOf
  rw [duties_cell, Finset.sum_congr rfl fun d _ => amount_cell D c kB 0 d]
  rfl
theorem rest_one (hk : dutK k r = {0}) : bigSep ((Rd D).duties (cell c k) r \ ∅) (fun d => (Rd D).payload (cell c k) r d) = payK D c k r 0 := by
  rw [Finset.sdiff_empty, duties_cell, hk, bigSep_singleton, payload_cell]
theorem rest_bar : bigSep ((Rd D).duties (cell c kB) 0 \ ∅) (fun d => (Rd D).payload (cell c kB) 0 d) = bigSep Finset.univ fun d => payK D c kB 0 d := by
  rw [Finset.sdiff_empty, duties_cell]
  exact bigSep_congr fun d _ => payload_cell D c kB 0 d
end Sched

/-- How many rounds a cell runs. -/
def roundsK : Ki → ℕ
  | none => 1
  | some (.inl (s, _)) => if s = 0 then 2 else 1
  | some (.inr _) => 3
theorem dutK_after (k : Ki) (r : ℕ) (h : roundsK k ≤ r) : dutK k r = ∅ := by
  match k with
  | none => exact if_neg (Nat.not_lt.mpr h)
  | some (.inl (s, b)) => exact if_neg (Nat.not_lt.mpr h)
  | some (.inr _) => exact if_neg (Nat.not_lt.mpr h)

/-! ## What a device owes -/

/-- The copies a device sends: layer, first (`0`) or second (`1`) exchange, peer, column group. -/
abbrev Msg : Type := Fin 3 × Fin 2 × Fin 3 × Fin 4
/-- When a copy is sent. -/
def rank (x : Msg) : ℕ := 24 * x.1.val + (if x.2.1 = 0 then 4 * (ordS x.2.2.1).val + x.2.2.2.val else 12 + 3 * x.2.2.2.val + (ordS x.2.2.1).val)
theorem rank_inj : ∀ x y : Msg, rank x = rank y → x = y := by decide +kernel
theorem ordS_ordS : ∀ i, ordS (ordS i) = i := by decide

/-- Where a copy of device `c` arrives. -/
def tgt (c : Dev nD) (x : Msg) : CellTallies nD τ sig ℕ := tallyAt (cell (peerD c x.2.2.1) (kX (if x.2.1 = 0 then 1 else 3) x.2.2.1.rev x.2.2.2)) x.1.val N
/-- What device `c` owes when the copies of rank below `n` are sent. -/
def O (c : Dev nD) (n : ℕ) : CellTallies nD τ sig ℕ := ∑ x ∈ Finset.univ.filter (fun x : Msg => n ≤ rank x), tgt c x
theorem O_step (c : Dev nD) (x : Msg) : O c (rank x) = O c (rank x + 1) + tgt c x := by
  unfold O
  have hs : Finset.univ.filter (fun y : Msg => rank x ≤ rank y) = insert x (Finset.univ.filter fun y : Msg => rank x + 1 ≤ rank y) := by
    ext y
    simp only [Finset.mem_filter, Finset.mem_univ, true_and, Finset.mem_insert]
    constructor
    · intro hy
      by_cases hxy : rank y = rank x
      · exact Or.inl (rank_inj _ _ hxy)
      · exact Or.inr (by omega)
    · rintro (rfl | hy)
      · exact le_rfl
      · omega
  rw [hs, Finset.sum_insert (by simp), add_comm]
theorem rank_lt (x : Msg) : rank x < 72 := by revert x; decide +kernel
theorem O_end (c : Dev nD) : O c 72 = 0 := by
  unfold O
  rw [Finset.filter_false_of_mem fun x _ => by have := rank_lt x; omega]; rfl

/-- What it owes before the barrier's signal number `i`. -/
def OB (c : Dev nD) (i : ℕ) : CellTallies nD τ sig ℕ := O c 0 + ∑ j ∈ Finset.univ.filter (fun j : Fin 3 => i ≤ j.val), tallyAt (cell (peerD c j) kB) 0 1
theorem OB_step (c : Dev nD) (i : Fin 3) : OB c i.val = OB c (i.val + 1) + tallyAt (cell (peerD c i) kB) 0 1 := by
  unfold OB
  have hs : Finset.univ.filter (fun j : Fin 3 => i.val ≤ j.val) = insert i (Finset.univ.filter fun j : Fin 3 => i.val + 1 ≤ j.val) := by
    revert i; decide
  rw [hs, Finset.sum_insert (by simp), add_comm (tallyAt _ _ _), add_assoc]
theorem OB_end (c : Dev nD) : OB c 3 = O c 0 := by
  unfold OB
  rw [Finset.filter_false_of_mem fun j _ => by have := j.isLt; omega, Finset.sum_empty, add_zero]

/-! ## The levels -/

def L (g : GSem nD τ sig) : Finset ℕ := if g.1.2 = .tc then Finset.range 3 else ∅
def lvK : Ki → ℕ → ℕ
  | none, _ => 1
  | some (.inl _), _ => 0
  | some (.inr (t, _, _)), l => if t = 1 then 2 + 2 * l else if t = 3 then 3 + 2 * l else 0
def lv (g : GSem nD τ sig) (l : ℕ) : ℕ := match dec g.2 with | some k => lvK k l | none => 0
theorem lv_cell (c : Dev nD) (k : Ki) (l : ℕ) : lv (cell c k) l = lvK k l := by
  show (match dec (csem k) with | some k => lvK k l | none => 0) = _
  rw [dec_csem]
theorem L_of_ne (g : GSem nD τ sig) (h : g.1.2 ≠ .tc) : L g = ∅ := if_neg h
theorem L_tc (c : Dev nD) (sm : SemLoc sig) : L (tc c, sm) = Finset.range 3 := if_pos rfl

theorem tgt_pos {c : Dev nD} {x : Msg} {g : GSem nD τ sig} {u : ℕ} (h : 0 < tgt c x g u) :
    g = cell (peerD c x.2.2.1) (kX (if x.2.1 = 0 then 1 else 3) x.2.2.1.rev x.2.2.2) ∧ u = x.1.val := by
  unfold tgt at h
  rw [tallyAt_apply] at h
  by_contra hn
  rw [if_neg hn] at h; exact Nat.lt_irrefl 0 h

theorem sum_tally_pos {α : Type} (s : Finset α) (T : α → CellTallies nD τ sig ℕ) {g : GSem nD τ sig} {u : ℕ} (h : 0 < (∑ x ∈ s, T x) g u) : ∃ x ∈ s, 0 < T x g u := by
  classical
  induction s using Finset.induction_on with
  | empty => rw [Finset.sum_empty] at h; exact absurd h (Nat.lt_irrefl 0)
  | insert a s ha ih =>
    rw [Finset.sum_insert ha, Pi.add_apply, Finsupp.add_apply] at h
    by_cases h1 : 0 < T a g u
    · exact ⟨a, Finset.mem_insert_self _ _, h1⟩
    · obtain ⟨x, hx, hp⟩ := ih (by omega)
      exact ⟨x, Finset.mem_insert_of_mem hx, hp⟩

/-- What is owed from rank `n` on lies at the level of that rank or above. -/
theorem O_pos {c : Dev nD} {n : ℕ} {g : GSem nD τ sig} {u : ℕ} (h : 0 < O c n g u) : u ∈ L g ∧ 2 + n / 12 ≤ lv g u := by
  obtain ⟨x, hx, hp⟩ := sum_tally_pos _ _ h
  obtain ⟨rfl, rfl⟩ := tgt_pos hp
  have hr := (Finset.mem_filter.mp hx).2
  refine ⟨by rw [L_tc]; exact Finset.mem_range.mpr x.1.isLt, ?_⟩
  rw [lv_cell]
  have key : ∀ x : Msg, 2 + rank x / 12 ≤ lvK (kX (if x.2.1 = 0 then 1 else 3) x.2.2.1.rev x.2.2.2) x.1.val := by decide +kernel
  exact (Nat.add_le_add_left (Nat.div_le_div_right hr) 2).trans (key x)

theorem OB_pos {c : Dev nD} {n : ℕ} {g : GSem nD τ sig} {u : ℕ} (h : 0 < OB c n g u) : u ∈ L g ∧ 1 ≤ lv g u := by
  unfold OB at h
  rw [Pi.add_apply, Finsupp.add_apply] at h
  by_cases h1 : 0 < O c 0 g u
  · have := O_pos h1; exact ⟨this.1, by omega⟩
  · obtain ⟨j, -, hp⟩ := sum_tally_pos _ _ (show 0 < (∑ j ∈ Finset.univ.filter (fun j : Fin 3 => n ≤ j.val), tallyAt (cell (peerD c j) kB) 0 1) g u by omega)
    rw [tallyAt_apply] at hp
    by_cases hj : g = cell (peerD c j) kB ∧ u = 0
    · obtain ⟨rfl, rfl⟩ := hj
      exact ⟨by rw [L_tc]; decide, by rw [lv_cell]; exact le_rfl⟩
    · rw [if_neg hj] at hp; exact absurd hp (Nat.lt_irrefl 0)

/-- A wait at a level below all that is owed. -/
theorem mayWait (c : Dev nD) (sm : SemLoc sig) (l : ℕ) (hl : l < 3) (n : ℕ) (h : lv (tc c, sm) l < 2 + n / 12) :
    (levAts L lv : sProp 𝕄) ⊢ MayWait (tc c) sm l (O c n) :=
  MayOwe.of_cut (L := L) (lev := lv) (lv (tc c, sm) l)
    (fun p hp => by rw [Finset.mem_singleton.mp hp, L_tc]; exact Finset.mem_range.mpr hl)
    (fun g u hg => (O_pos hg).1)
    (fun p hp => by rw [Finset.mem_singleton.mp hp])
    (fun g u hg => lt_of_lt_of_le h (O_pos hg).2)
/-- A wait on a cell of level zero before the barrier. -/
theorem mayWaitB (c : Dev nD) (sm : SemLoc sig) (l : ℕ) (hl : l < 3) (n : ℕ) (h : lv (tc c, sm) l = 0) :
    (levAts L lv : sProp 𝕄) ⊢ MayWait (tc c) sm l (OB c n) :=
  MayOwe.of_cut (L := L) (lev := lv) 0
    (fun p hp => by rw [Finset.mem_singleton.mp hp, L_tc]; exact Finset.mem_range.mpr hl)
    (fun g u hg => (OB_pos hg).1)
    (fun p hp => by rw [Finset.mem_singleton.mp hp, h])
    (fun g u hg => (OB_pos hg).2)

def owesX (c : Dev nD) (n : ℕ) : sProp 𝕄 := iprop(∃ W, owes (tc c) (O c n) W)
def owesB (c : Dev nD) (n : ℕ) : sProp 𝕄 := iprop(∃ W, owes (tc c) (OB c n) W)

/-! ## The records every device shares -/

instance decDK : DecidableEq (Dev nD × Ki) := fun a b => decidable_of_iff (a.1 = b.1 ∧ a.2 = b.2) Prod.ext_iff.symm

section Recs
variable (D : Inp F) (K : Dev nD × Ki → ℕ)
def recs : sProp 𝕄 :=
  iprop((bigSep Finset.univ fun ck : Dev nD × Ki => cellInv ER (Rd D) (K ck) (cell ck.1 ck.2))
    ∗ (bigSep Finset.univ fun ck : Dev nD × Ki => reached ER (cell ck.1 ck.2) 0) ∗ levAts L lv)
instance recs_persistent : BI.Persistent (recs D K) := by unfold recs; infer_instance
theorem at_inv (ck : Dev nD × Ki) : (bigSep Finset.univ fun ck : Dev nD × Ki => cellInv ER (Rd D) (K ck) (cell ck.1 ck.2)) ⊢ cellInv ER (Rd D) (K ck) (cell ck.1 ck.2) := bigSep_elim (Finset.mem_univ ck)
theorem at_reached (ck : Dev nD × Ki) : (bigSep Finset.univ fun ck : Dev nD × Ki => (reached ER (cell ck.1 ck.2) 0 : sProp 𝕄)) ⊢ reached ER (cell ck.1 ck.2) 0 := bigSep_elim (Finset.mem_univ ck)
theorem recs_inv (c : Dev nD) (k : Ki) : recs D K ⊢ cellInv ER (Rd D) (K (c, k)) (cell c k) := by
  unfold recs
  iintro ⟨H, -⟩
  iapply (at_inv D K (c, k)); iexact H
theorem recs_reached (c : Dev nD) (k : Ki) : recs D K ⊢ reached ER (cell c k) 0 := by
  unfold recs
  iintro ⟨-, H, -⟩
  iapply (at_reached (F := F) (c, k)); iexact H
theorem recs_lev : recs D K ⊢ levAts L lv := by
  unfold recs
  iintro ⟨-, -, H⟩; iexact H
end Recs

abbrev 𝒱₀ : Variants := Variants.none
/-- A program of device `c` run to its end. -/
abbrev WP {α : Type} (c : Dev nD) (p : P F α) (Q : α → sProp 𝕄) : sProp 𝕄 := wp frame (wpE (defs₀ (F := F)) 𝒱₀ (tc c) none) Set.univ p Q

theorem WP_pure {α : Type} (c : Dev nD) (a : α) (Q : α → sProp 𝕄) : Q a ⊢ WP c (pure a : P F α) Q := by
  refine BIBase.Entails.trans ?_ (Entails.of_eq (wp_pure _ _ _ a Q).symm)
  iintro H; imodintro; iexact H
theorem WP_bind {α β : Type} (c : Dev nD) (p : P F α) (k : α → P F β) (Q : β → sProp 𝕄) : WP c p (fun a => WP c (k a) Q) ⊢ WP c (p >>= k) Q :=
  Entails.of_eq (wp_bind _ _ _ p k Q).symm
theorem WP_wand {α : Type} (c : Dev nD) {p : P F α} (Q : α → sProp 𝕄) {Q' : α → sProp 𝕄} : WP c p Q ⊢ iprop((∀ a, Q a -∗ Q' a) -∗ WP c p Q') :=
  wp_wand _ _ _

/-- A loop by a rule for its steps: the values are computed by `f`, the invariant moves from `I i` to `I (i + 1)`, each step's own
    resources `A i` become `B i`. -/
theorem wp_loop {α : Type} (c : Dev nD) (R : sProp 𝕄) [BI.Persistent R] : ∀ (n : ℕ) (b : Fin n → α → P F α) (f : Fin n → α → α) (I : ℕ → sProp 𝕄) (A B : Fin n → sProp 𝕄),
    (∀ i x, iprop(R ∗ I i.val ∗ A i) ⊢ WP c (b i x) (fun y => iprop(⌜y = f i x⌝ ∗ I (i.val + 1) ∗ B i))) →
    ∀ a, iprop(R ∗ I 0 ∗ bigSep Finset.univ A) ⊢ WP c (loop n b a) (fun y => iprop(⌜y = lpv n f a⌝ ∗ I n ∗ bigSep Finset.univ B)) := by
  intro n
  induction n with
  | zero =>
    intro b f I A B hb a
    refine BIBase.Entails.trans ?_ (WP_pure c a _)
    iintro ⟨-, HI, -⟩
    isplitr; · ipureintro; rfl
    isplitl [HI]; · iexact HI
    rw [Finset.univ_eq_empty, bigSep_empty]
    iempintro
  | succ n ih =>
    intro b f I A B hb a
    refine BIBase.Entails.trans ?_ (WP_bind c (b 0 a) (loop n fun i => b i.succ) _)
    have hA (Φ : Fin (n + 1) → sProp 𝕄) : bigSep Finset.univ Φ = iprop(Φ 0 ∗ bigSep Finset.univ fun i : Fin n => Φ i.succ) := by
      rw [Fin.univ_succ, Finset.cons_eq_insert, bigSep_insert (by simp), bigSep_map]; rfl
    rw [hA A]
    iintro ⟨#HR, HI, H0, Hs⟩
    iapply (WP_wand c (fun y => iprop(⌜y = f 0 a⌝ ∗ I (0 + 1) ∗ B 0))) $$ [HI H0]
    · have hb0 : iprop(R ∗ I 0 ∗ A 0) ⊢ WP c (b 0 a) (fun y => iprop(⌜y = f 0 a⌝ ∗ I (0 + 1) ∗ B 0)) := hb 0 a
      iapply hb0
      isplitr; · iexact HR
      isplitl [HI]; · iexact HI
      iexact H0
    iintro %y ⟨%hy, HI, HB⟩
    subst hy
    iapply (WP_wand c (fun y => iprop(⌜y = lpv n (fun i => f i.succ) (f 0 a)⌝ ∗ I (n + 1) ∗ bigSep Finset.univ fun i : Fin n => B i.succ))) $$ [HI Hs]
    · iapply (ih (fun i => b i.succ) (fun i => f i.succ) (fun i => I (i + 1)) (fun i => A i.succ) (fun i => B i.succ) (fun i x => hb i.succ x) (f 0 a))
      isplitr; · iexact HR
      isplitl [HI]; · iexact HI
      iexact Hs
    iintro %y ⟨%hy, HI, HBs⟩
    isplitr; · ipureintro; exact hy
    isplitl [HI]; · iexact HI
    rw [hA B]
    isplitl [HB] <;> iassumption

end Cert.KernelIdeal.Mlp
-- ==== Proof.Steps.lean ====
/-
  The single steps of the body: each copy, each wait and each load or store, against the protocol.
-/
module

public import proofs.«01_k».proof.Proof.Common

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Facts₀ Cert.KernelIdeal.Facts

variable {F : FTy → Type} [FloatOps F]

local notation "𝕄" => MT nD τ sig ℕ (Elt F) ℕ UU ℕ

variable (D : Inp F) (K : Dev nD × Ki → ℕ) (c : Dev nD)

/-! ## What each round hands over, cell by cell -/

section Pay
variable (A : Dev nD) (j : Fin 3) (h : Fin 4) (l : ℕ) (d : Fin 3)
theorem pay_rsS : (Rd D).payload (cell A (kX 0 j h)) l d = pPts A j h (B3 (PV D l A (peerD A j))) := payload_cell D A (kX 0 j h) l d
theorem pay_rsR : (Rd D).payload (cell (peerD A j) (kX 1 j.rev h)) l d = iprop(rsPts (peerD A j) j.rev h (B3 (PV D l A (peerD A j))) ∗ agFree A j h l) := by
  refine (payload_cell D (peerD A j) (kX 1 j.rev h) l d).trans ?_
  show iprop(rsPts (peerD A j) j.rev h (B3 (PV D l (peerD (peerD A j) j.rev) (peerD A j))) ∗ agFree (peerD (peerD A j) j.rev) j.rev.rev h l) = _
  rw [peer_peer, Fin.rev_rev]
theorem pay_agS : (Rd D).payload (cell A (kX 2 j h)) l d = mPts A h (qsh j) (MV D l A) := payload_cell D A (kX 2 j h) l d
theorem pay_agR : (Rd D).payload (cell (peerD A j) (kX 3 j.rev h)) l d
    = iprop(agPts (peerD A j) j.rev h (B3 (MV D l A)) ∗ (if l < 2 then rsFree A j h (l + 1) else emp)) := by
  refine (payload_cell D (peerD A j) (kX 3 j.rev h) l d).trans ?_
  show iprop(agPts (peerD A j) j.rev h (B3 (MV D l (peerD (peerD A j) j.rev))) ∗ (if l < 2 then rsFree (peerD (peerD A j) j.rev) j.rev.rev h (l + 1) else emp)) = _
  rw [peer_peer, Fin.rev_rev]
theorem duty_x (t : Fin 4) (hl : l < 3) : (0 : Fin 3) ∈ (Rd D).duties (cell A (kX t j h)) l := by
  rw [duties_cell, show dutK (kX t j h) l = {0} from if_pos hl]; exact Finset.mem_singleton_self _
end Pay

/-! ## The copies to the peers -/

theorem credit_rs (k : Fin 3) (h : Fin 4) (q : DmaSem sig) : (rsView k h).view.amount (.dma q) = N := rfl
theorem credit_ag (k : Fin 3) (h : Fin 4) (q : DmaSem sig) : (agView k h).view.amount (.dma q) = N := rfl

variable (l : Fin 3) (j : Fin 3) (h : Fin 4)

theorem rs_src : ((pView c j h).view.loc (tc c) ↦[(pView c j h).view.set]{fullShare} (B3 (PV D l.val c (peerD c j)) : S4x64x512.Idx → Elt F .bf16))
    ⊢ (Rd D).payload ((tc c), .dma (rsS j h)) l.val 0 := Entails.of_eq (pay_rsS D c j h l.val 0).symm
theorem rs_dst (f : S3x64x512.Idx → Elt F .bf16) :
    iprop(((rsView j.rev h).view.loc (tc (peerD c j)) ↦[(rsView j.rev h).view.set]{fullShare} ((rsView j.rev h).view.write (Elt F) f
      ((pView c j h).view.read (Elt F) (B3 (PV D l.val c (peerD c j)) : S4x64x512.Idx → Elt F .bf16)) Finset.univ)) ∗ agFree c j h l)
    ⊢ (Rd D).payload ((tc (peerD c j)), .dma (rsR j.rev h)) l.val 0 := by
  refine BIBase.Entails.trans ?_ (Entails.of_eq (pay_rsR D c j h l.val 0).symm); unfold rsPts
  rw [pointsTo_congr (fun i hi => copy_p c j j.rev h (PV D l.val c (peerD c j)) f i hi)]
theorem ag_src : ((mView h).view.loc (tc c) ↦[(mView h).view.set]{qsh j} (MV D l.val c : S64x512.Idx → Elt F .bf16))
    ⊢ (Rd D).payload ((tc c), .dma (agS j h)) l.val 0 := Entails.of_eq (pay_agS D c j h l.val 0).symm
theorem ag_dst (f : S3x64x512.Idx → Elt F .bf16) :
    iprop(((agView j.rev h).view.loc (tc (peerD c j)) ↦[(agView j.rev h).view.set]{fullShare} ((agView j.rev h).view.write (Elt F) f
      ((mView h).view.read (Elt F) (MV D l.val c : S64x512.Idx → Elt F .bf16)) Finset.univ)) ∗ (if l.val < 2 then rsFree c j h (l.val + 1) else emp))
    ⊢ (Rd D).payload ((tc (peerD c j)), .dma (agR j.rev h)) l.val 0 := by
  refine BIBase.Entails.trans ?_ (Entails.of_eq (pay_agR D c j h l.val 0).symm); unfold agPts
  rw [pointsTo_congr (fun i hi => copy_m j.rev h (MV D l.val c) f i hi)]

theorem rs_rule (f : S3x64x512.Idx → Elt F .bf16) (W : Waits sig ℕ) (k : PUnit → P F PUnit) (Q : PUnit → sProp 𝕄) :
    iprop(cellInv ER (Rd D) (K (c, kX 0 j h)) (cell c (kX 0 j h)) ∗ cellInv ER (Rd D) (K (peerD c j, kX 1 j.rev h)) (cell (peerD c j) (kX 1 j.rev h))
      ∗ pPts c j h (B3 (PV D l c (peerD c j))) ∗ (rsPts (peerD c j) j.rev h f ∗ agFree c j h l)
      ∗ owes (tc c) (O c (rank (l, 0, j, h))) W ∗ dutyTok ER (cell c (kX 0 j h)) l 0 ∗ reached ER (cell c (kX 0 j h)) l
      ∗ dutyTok ER (cell (peerD c j) (kX 1 j.rev h)) l 0 ∗ reached ER (cell (peerD c j) (kX 1 j.rev h)) l)
    ⊢ iprop(((cred (tallyAt (cell c (kX 0 j h)) 0 N) ∗ owes (tc c) (O c (rank (l, 0, j, h) + 1)) W) -∗ WP c (k ⟨⟩) Q)
      -∗ WP c (.op (.enqueueDma (pView c j h) (.remote (Dev.tc (peerD c j)) (rsView j.rev h) (.dma (rsS j h))) (.dma (rsR j.rev h))
        (pView_words c j h) (rsView_words j.rev h) ⟨⟨rfl, Or.inl rfl⟩, trivial⟩) k) Q) := by
  unfold pPts rsPts
  exact Rounds.wp_send_pointsTo_with 𝒱₀ ER (Rd D) (tc c) none (κ₁ := K (c, kX 0 j h)) (κ₂ := K (peerD c j, kX 1 j.rev h))
    (r₁ := l.val) (r₂ := l.val) (d₁ := 0) (d₂ := 0) (fd := f) (F := agFree c j h l)
    (duty_x D c j h l.val 0 l.isLt) (duty_x D (peerD c j) j.rev h l.val 1 l.isLt)
    l.val 0 N (credit_rs j.rev h _) (amount_cell D c (kX 0 j h) l.val 0) (amount_cell D (peerD c j) (kX 1 j.rev h) l.val 0)
    (O c (rank (l, 0, j, h) + 1)) (O_step c (l, 0, j, h)) (W := W)
    (rs_src D c l j h) (rs_dst D c l j h f)
theorem ag_rule (f : S3x64x512.Idx → Elt F .bf16) (W : Waits sig ℕ) (k : PUnit → P F PUnit) (Q : PUnit → sProp 𝕄) :
    iprop(cellInv ER (Rd D) (K (c, kX 2 j h)) (cell c (kX 2 j h)) ∗ cellInv ER (Rd D) (K (peerD c j, kX 3 j.rev h)) (cell (peerD c j) (kX 3 j.rev h))
      ∗ mPts c h (qsh j) (MV D l c) ∗ (agPts (peerD c j) j.rev h f ∗ (if l.val < 2 then rsFree c j h (l.val + 1) else emp))
      ∗ owes (tc c) (O c (rank (l, 1, j, h))) W ∗ dutyTok ER (cell c (kX 2 j h)) l 0 ∗ reached ER (cell c (kX 2 j h)) l
      ∗ dutyTok ER (cell (peerD c j) (kX 3 j.rev h)) l 0 ∗ reached ER (cell (peerD c j) (kX 3 j.rev h)) l)
    ⊢ iprop(((cred (tallyAt (cell c (kX 2 j h)) 0 N) ∗ owes (tc c) (O c (rank (l, 1, j, h) + 1)) W) -∗ WP c (k ⟨⟩) Q)
      -∗ WP c (.op (.enqueueDma (mView h) (.remote (Dev.tc (peerD c j)) (agView j.rev h) (.dma (agS j h))) (.dma (agR j.rev h))
        (mView_words h) (agView_words j.rev h) ⟨⟨rfl, Or.inl rfl⟩, trivial⟩) k) Q) := by
  unfold mPts agPts
  exact Rounds.wp_send_pointsTo_with 𝒱₀ ER (Rd D) (tc c) none (κ₁ := K (c, kX 2 j h)) (κ₂ := K (peerD c j, kX 3 j.rev h))
    (r₁ := l.val) (r₂ := l.val) (d₁ := 0) (d₂ := 0) (fd := f) (F := iprop(if l.val < 2 then rsFree c j h (l.val + 1) else emp))
    (duty_x D c j h l.val 2 l.isLt) (duty_x D (peerD c j) j.rev h l.val 3 l.isLt)
    l.val 0 N (credit_ag j.rev h _) (amount_cell D c (kX 2 j h) l.val 0) (amount_cell D (peerD c j) (kX 3 j.rev h) l.val 0)
    (O c (rank (l, 1, j, h) + 1)) (O_step c (l, 1, j, h)) (W := W)
    (ag_src D c l j h) (ag_dst D c l j h f)

/-- A column group of the partial goes to its peer, with the leave to write this device's slot for the peer's quarter. -/
theorem rsSend_spec :
    iprop(recs D K ∗ owesX c (rank (l, 0, j, h)) ∗ (pPts c j h (B3 (PV D l c (peerD c j))) ∗ rsFree (peerD c j) j.rev h l ∗ agFree c j h l
      ∗ dutyTok ER (cell c (kX 0 j h)) l 0 ∗ reached ER (cell c (kX 0 j h)) l ∗ dutyTok ER (cell (peerD c j) (kX 1 j.rev h)) l 0))
    ⊢ WP c (rsSend c j h) (fun _ => iprop(owesX c (rank (l, 0, j, h) + 1) ∗ cred (tallyAt (cell c (kX 0 j h)) 0 N))) := by
  unfold owesX rsFree
  iintro ⟨#HR, ⟨%W, HO⟩, HP, ⟨⟨%f, Hs⟩, #Hr2⟩, HF, Ht1, #Hr1, Ht2⟩
  ihave #HI1 := (recs_inv D K c (kX 0 j h)) $$ HR
  ihave #HI2 := (recs_inv D K (peerD c j) (kX 1 j.rev h)) $$ HR
  unfold rsSend Prog.lift
  iapply (rs_rule D K c l j h f W) $$ [HP Hs HF HO Ht1 Ht2]
  · isplitr; · iexact HI1
    isplitr; · iexact HI2
    isplitl [HP]; · iexact HP
    isplitl [Hs HF]
    · isplitl [Hs]; · iexact Hs
      iexact HF
    isplitl [HO]; · iexact HO
    isplitl [Ht1]; · iexact Ht1
    isplitr; · iexact Hr1
    isplitl [Ht2]; · iexact Ht2
    iexact Hr2
  iintro ⟨Hc, HO⟩
  iapply (WP_pure c)
  isplitl [HO]; · iexists W; iexact HO
  iexact Hc

/-- A column group of the own quarter goes to a peer, with the leave to write this device's slot for the next layer's partial. -/
theorem agSend_spec :
    iprop(recs D K ∗ owesX c (rank (l, 1, j, h)) ∗ (mPts c h (qsh j) (MV D l c) ∗ agFree (peerD c j) j.rev h l ∗ (if l.val < 2 then rsFree c j h (l.val + 1) else emp)
      ∗ dutyTok ER (cell c (kX 2 j h)) l 0 ∗ reached ER (cell c (kX 2 j h)) l ∗ dutyTok ER (cell (peerD c j) (kX 3 j.rev h)) l 0))
    ⊢ WP c (agSend c h j) (fun _ => iprop(owesX c (rank (l, 1, j, h) + 1) ∗ cred (tallyAt (cell c (kX 2 j h)) 0 N))) := by
  unfold owesX agFree
  iintro ⟨#HR, ⟨%W, HO⟩, HP, ⟨⟨%f, Hs⟩, #Hr2⟩, HF, Ht1, #Hr1, Ht2⟩
  ihave #HI1 := (recs_inv D K c (kX 2 j h)) $$ HR
  ihave #HI2 := (recs_inv D K (peerD c j) (kX 3 j.rev h)) $$ HR
  unfold agSend Prog.lift
  iapply (ag_rule D K c l j h f W) $$ [HP Hs HF HO Ht1 Ht2]
  · isplitr; · iexact HI1
    isplitr; · iexact HI2
    isplitl [HP]; · iexact HP
    isplitl [Hs HF]
    · isplitl [Hs]; · iexact Hs
      iexact HF
    isplitl [HO]; · iexact HO
    isplitl [Ht1]; · iexact Ht1
    isplitr; · iexact Hr1
    isplitl [Ht2]; · iexact Ht2
    iexact Hr2
  iintro ⟨Hc, HO⟩
  iapply (WP_pure c)
  isplitl [HO]; · iexists W; iexact HO
  iexact Hc

/-! ## The waits -/

/-- A wait that takes the whole of a round of one of the device's cells. -/
theorem wait_spec (k : Ki) (r : ℕ) (q : DmaSem sig) (hq : csem k = .dma q) (hd : dutK k r = {0}) (ι : ℕ) (hι : ι < 3) (n : ℕ) (hlv : lvK k ι < 2 + n / 12)
    {sp sp' : Space} {s : Shape} {e : EltTy} (src : Memref sig .tc sp s e) (dst : Memref sig .tc sp' s e) (hs : src.view.WordExact) (hdst : dst.view.WordExact)
    (ham : dst.view.dmaCredit = amtK k) :
    iprop(recs D K ∗ owesX c n ∗ cred (tallyAt (cell c k) ι (amtK k)) ∗ atPos ER (cell c k) r ∅ 0)
    ⊢ WP c (Prog.lift (.waitDma2 q src dst hs hdst) : P F PUnit)
      (fun _ => iprop(owesX c n ∗ atPos ER (cell c k) (r + 1) ∅ 0 ∗ reached ER (cell c k) (r + 1) ∗ payK D c k r 0)) := by
  have hg : cell c k = (tc c, SemLoc.dma q) := Prod.ext rfl hq
  unfold owesX
  iintro ⟨#HR, ⟨%W, HO⟩, Hc, Hat⟩
  ihave #HI := (recs_inv D K c k) $$ HR
  ihave #HL := (recs_lev D K) $$ HR
  unfold Prog.lift
  iapply (Rounds.wp_wait_rest_token 𝒱₀ ER (Rd D) (tc c) none (κ := K (c, k)) (sm := .dma q) (k' := amtK k)
    (fun K => by rw [wpE_waitDma2_eq 𝒱₀ (tc c) none Set.univ, ham]) (Set.mem_univ _) ι (O := O c n) (W := W) (R := r) (m := 0) (T := ∅)
    (by rw [← hg, expect_one D c k r hd, Nat.zero_add])) $$ [HO Hc Hat]
  · rw [← hg]
    isplitr; · iexact HI
    isplitl [Hc]; · iexact Hc
    isplitl [HO]; · iexact HO
    isplitr
    · iapply (mayWait c (.dma q) ι hι n (by rw [← hg, lv_cell]; exact hlv)); iexact HL
    iexact Hat
  rw [← hg]
  iintro ⟨HO, Hat, Hr, Hpay⟩
  iapply (WP_pure c)
  isplitl [HO]; · iexists _; iexact HO
  isplitl [Hat]; · iexact Hat
  isplitl [Hr]; · iexact Hr
  iapply (Entails.of_eq (rest_one D c k r hd)); iexact Hpay

end Cert.KernelIdeal.Mlp
-- ==== Proof.Access.lean ====
/-
  The loads and stores of the body, each with the contents it finds and leaves.
-/
module

public import proofs.«01_k».proof.Proof.Steps

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Facts₀ Cert.KernelIdeal.Facts

variable {F : FTy → Type} [FloatOps F]

local notation "𝕄" => MT nD τ sig ℕ (Elt F) ℕ UU ℕ

variable (c : Dev nD)

/-- A load gives what the view reads and leaves the buffer as it is. -/
theorem load_spec {cs : CoreSpace} {s : Shape} {e : EltTy} (m : Memref sig .tc cs s e) (r : LoadRect s) (hl : m.view.LoadsAt r)
    {S : Finset (Idx (m.view.loc (tc c)))} {q : PosShare TreeShare} {f : Buf (Elt F) (m.view.loc (tc c))} (hS : m.view.setOn r.set ⊆ S) :
    (m.view.loc (tc c) ↦[S]{q} f : sProp 𝕄)
    ⊢ WP c (Prog.lift (.load m r hl) : P F (r.shape.Idx → Elt F e)) (fun v => iprop(⌜v = m.view.readAt (Elt F) r f⌝ ∗ (m.view.loc (tc c) ↦[S]{q} f))) := by
  unfold Prog.lift
  iintro H
  iapply (wp_load 𝒱₀ (tc c) none Set.univ (m := m) hS) $$ H
  iintro H
  iapply (WP_pure c)
  isplitr; · ipureintro; rfl
  iexact H
/-- A load whose value is not used. -/
theorem load_any {cs : CoreSpace} {s : Shape} {e : EltTy} (m : Memref sig .tc cs s e) (r : LoadRect s) (hl : m.view.LoadsAt r)
    {S : Finset (Idx (m.view.loc (tc c)))} {q : PosShare TreeShare} {f : Buf (Elt F) (m.view.loc (tc c))} (hS : m.view.setOn r.set ⊆ S) :
    (m.view.loc (tc c) ↦[S]{q} f : sProp 𝕄)
    ⊢ WP c (Prog.lift (.load m r hl) : P F (r.shape.Idx → Elt F e)) (fun v => (m.view.loc (tc c) ↦[S]{q} f)) := by
  unfold Prog.lift
  iintro H
  iapply (wp_load 𝒱₀ (tc c) none Set.univ (m := m) hS) $$ H
  iintro H
  iapply (WP_pure c)
  iexact H
/-- A store writes through its view; the contents it leaves may be written in another way. -/
theorem store_spec {cs : CoreSpace} {s : Shape} {e : EltTy} (m : Memref sig .tc cs s e) (r : Rect s) (w : r.shape.Idx → Elt F e) (hx : (m.access r).Stores Finset.univ) (hm)
    {S : Finset (Idx ((m.access r).loc (tc c)))} {f g : Buf (Elt F) ((m.access r).loc (tc c))} (hS : (m.access r).setOn Finset.univ ⊆ S)
    (hg : ∀ i ∈ S, (m.access r).write (Elt F) f w Finset.univ i = g i) :
    ((m.access r).loc (tc c) ↦[S]{fullShare} f : sProp 𝕄)
    ⊢ WP c (Prog.lift (.store m r w Finset.univ hx hm) : P F PUnit) (fun _ => ((m.access r).loc (tc c) ↦[S]{fullShare} g)) := by
  rw [← pointsTo_congr hg]
  unfold Prog.lift
  iintro H
  iapply (wp_store 𝒱₀ (tc c) none Set.univ (m := m) (r := r) (Mk := Finset.univ) hS) $$ H
  iintro H
  iapply (WP_pure c)
  iexact H

variable (s : Fin 2) (j k : Fin 3) (h : Fin 4)

theorem wi_load (w : S1024x2048.Idx → Elt F .f32) (o : Fin 2 → ℕ) (inb) (hl) (p : Fin 4) (ho : ∀ a, o a = (![0, 512 * p.val] : Fin 2 → ℕ) a) :
    wiPts (F := F) c s (B3 w)
    ⊢ WP c (Prog.lift (.load (wiView s) (Rect.unit (s := S1024x2048) o S1024x512.size inb).toLoadRect hl) : P F (S1024x512.Idx → Elt F .f32))
      (fun v => iprop(⌜v = wcols w p⌝ ∗ wiPts c s (B3 w))) := by
  have h1 := load_spec c (F := F) (wiView s) (Rect.unit (s := S1024x2048) o S1024x512.size inb).toLoadRect hl (q := fullShare) (f := (B3 w : S2x1024x2048.Idx → Elt F .f32))
    (load_w_sub (wiView s).view _)
  rw [load_wi s w o inb p ho] at h1
  exact h1
theorem wo_load (w : S2048x1024.Idx → Elt F .f32) (o : Fin 2 → ℕ) (inb) (hl) (p : Fin 4) (ho : ∀ a, o a = (![512 * p.val + 128 * h.val, 0] : Fin 2 → ℕ) a) :
    woPts (F := F) c s (B3 w)
    ⊢ WP c (Prog.lift (.load (woView s) (Rect.unit (s := S2048x1024) o S128x1024.size inb).toLoadRect hl) : P F (S128x1024.Idx → Elt F .f32))
      (fun v => iprop(⌜v = wrows w p h⌝ ∗ woPts c s (B3 w))) := by
  have h1 := load_spec c (F := F) (woView s) (Rect.unit (s := S2048x1024) o S128x1024.size inb).toLoadRect hl (q := fullShare) (f := (B3 w : S2x2048x1024.Idx → Elt F .f32))
    (load_w_sub (woView s).view _)
  rw [load_wo h s w o inb p ho] at h1
  exact h1
theorem rs_load (v : S64x512.Idx → Elt F .bf16) (hl) :
    rsPts (F := F) c k h (B3 v)
    ⊢ WP c (Prog.lift (.load (Memref.whole cc0_scratch3) (Rect.unit (s := S3x64x512) (soff k h) S1x64x128.size (soff_inb k h)).toLoadRect hl) : P F (S1x64x128.Idx → Elt F .bf16))
      (fun w => iprop(⌜w = grp v h⌝ ∗ rsPts c k h (B3 v))) := by
  have h1 := load_spec c (F := F) (Memref.whole cc0_scratch3) (Rect.unit (s := S3x64x512) (soff k h) S1x64x128.size (soff_inb k h)).toLoadRect hl (q := fullShare)
    (f := (B3 v : S3x64x512.Idx → Elt F .bf16)) (load_rs_sub k h)
  rw [load_rs k h v] at h1
  exact h1
theorem ag_load (v : S64x512.Idx → Elt F .bf16) (hl) :
    agPts (F := F) c k h (B3 v)
    ⊢ WP c (Prog.lift (.load (Memref.whole cc0_scratch5) (Rect.unit (s := S3x64x512) (soff k h) S1x64x128.size (soff_inb k h)).toLoadRect hl) : P F (S1x64x128.Idx → Elt F .bf16))
      (fun w => iprop(⌜w = grp v h⌝ ∗ agPts c k h (B3 v))) := by
  have h1 := load_spec c (F := F) (Memref.whole cc0_scratch5) (Rect.unit (s := S3x64x512) (soff k h) S1x64x128.size (soff_inb k h)).toLoadRect hl (q := fullShare)
    (f := (B3 v : S3x64x512.Idx → Elt F .bf16)) (load_ag_sub k h)
  rw [load_ag k h v] at h1
  exact h1

/-- The partial's plane is loaded, and overwritten by the partial. -/
theorem plane_load (f : S4x64x512.Idx → Elt F .bf16) (hl) :
    planePts (F := F) c j f
    ⊢ WP c (Prog.lift (.load (Memref.whole cc0_scratch2) (Rect.unit (s := S4x64x512) (k0_off2 c (ow j)) S1x64x512.size (off2_inb c j)).toLoadRect hl) : P F (S1x64x512.Idx → Elt F .bf16))
      (fun _ => planePts c j f) := by
  exact load_any c (F := F) (Memref.whole cc0_scratch2) (Rect.unit (s := S4x64x512) (k0_off2 c (ow j)) S1x64x512.size (off2_inb c j)).toLoadRect hl (q := fullShare)
    (f := f) (load_p_sub c j)
theorem plane_store (p : FVec F S64x512 .f32) (f : S4x64x512.Idx → Elt F .bf16) (hx) (hm) :
    planePts (F := F) c j f
    ⊢ WP c (Prog.lift (.store (Memref.whole cc0_scratch2) (Rect.unit (s := S4x64x512) (k0_off2 c (ow j)) S1x64x512.size (off2_inb c j)) (packP p) Finset.univ hx hm) : P F PUnit)
      (fun _ => planePts c j (B3 (truncf .bf16 p bitsLt_bf16_f32))) := by
  exact store_spec c (F := F) (Memref.whole cc0_scratch2) (Rect.unit (s := S4x64x512) (k0_off2 c (ow j)) S1x64x512.size (off2_inb c j)) (packP p) hx hm (S := plane c j) (f := f) (g := (B3 (truncf .bf16 p bitsLt_bf16_f32) : S4x64x512.Idx → Elt F .bf16)) (store_p_sub c j)
    (fun i hi => store_p c j (truncf .bf16 p bitsLt_bf16_f32) f shapeCasts_S64x512_S1x64x512 i hi)
/-- The plane is its four column groups. -/
theorem plane_split (f : S4x64x512.Idx → Elt F .bf16) : planePts (F := F) c j f = bigSep Finset.univ fun h : Fin 4 => pPts c j h f := by
  unfold planePts pPts plane
  have e : ∀ (K : Fin 4 → Finset (Idx ((tc c).loc cc0_scratch2))) (H : ∀ h h', h ≠ h' → Disjoint (K h) (K h')),
      (((tc c).loc cc0_scratch2) ↦[Finset.univ.biUnion K]{fullShare} f : sProp 𝕄) = bigSep Finset.univ fun h : Fin 4 => (((tc c).loc cc0_scratch2) ↦[K h]{fullShare} f) :=
    fun K H => pointsTo_biUnion Finset.univ K fun h _ h' _ hne => H h h' hne
  refine e (fun h => (pView c j h).view.set) fun h h' hne => ?_
  rw [Finset.disjoint_left]
  intro i hi hi'
  exact hne (Fin.ext (((mem_pView c j h i).mp hi).2.symm.trans ((mem_pView c j h' i).mp hi').2))
/-- A column group of the own quarter is loaded, and overwritten. -/
theorem m_load (f : S64x512.Idx → Elt F .bf16) (hl) :
    mPts (F := F) c h fullShare f
    ⊢ WP c (Prog.lift (.load (Memref.whole cc0_scratch4) (Rect.unit (s := S64x512) (moff h) S64x128.size (moff_inb h)).toLoadRect hl) : P F (S64x128.Idx → Elt F .bf16))
      (fun _ => mPts c h fullShare f) := by
  exact load_any c (F := F) (Memref.whole cc0_scratch4) (Rect.unit (s := S64x512) (moff h) S64x128.size (moff_inb h)).toLoadRect hl (q := fullShare)
    (f := f) (load_m_sub h)
theorem m_store (w : Fin 4 → S64x128.Idx → Elt F .bf16) (f : S64x512.Idx → Elt F .bf16) (hx) (hm) :
    mPts (F := F) c h fullShare f
    ⊢ WP c (Prog.lift (.store (Memref.whole cc0_scratch4) (Rect.unit (s := S64x512) (moff h) S64x128.size (moff_inb h)) (w h) Finset.univ hx hm) : P F PUnit)
      (fun _ => mPts c h fullShare (catM w)) := by
  exact store_spec c (F := F) (Memref.whole cc0_scratch4) (Rect.unit (s := S64x512) (moff h) S64x128.size (moff_inb h)) (w h) hx hm (S := (mView h).view.set) (f := f) (g := catM w) (store_m_sub h)
    (fun i hi => store_m h w f i hi)
/-- A column group of the own quarter in three shares, one for each peer's copy. -/
theorem m_split (f : S64x512.Idx → Elt F .bf16) : mPts (F := F) c h fullShare f = bigSep Finset.univ fun j : Fin 3 => mPts c h (qsh j) f := by
  rw [bigSep_univ_eq_bigSepL [(0 : Fin 3), 1, 2] (by decide) (by decide)]
  have h1 : mPts (F := F) c h fullShare f = iprop(mPts c h fullShare.left f ∗ mPts c h fullShare.right f) :=
    BI.Entails.antisymm (pointsTo_share (PosShare.mem_left_op_right fullShare)).1 (pointsTo_share (PosShare.mem_left_op_right fullShare)).2
  have h2 : mPts (F := F) c h fullShare.right f = iprop(mPts c h fullShare.right.left f ∗ mPts c h fullShare.right.right f) :=
    BI.Entails.antisymm (pointsTo_share (PosShare.mem_left_op_right fullShare.right)).1 (pointsTo_share (PosShare.mem_left_op_right fullShare.right)).2
  rw [h1, h2]
  rfl

end Cert.KernelIdeal.Mlp
-- ==== Proof.Blocks.lean ====
/-
  The blocks of a layer: what each takes, gives back and computes.
-/
module

public import proofs.«01_k».proof.Proof.Access

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Facts₀ Cert.KernelIdeal.Facts

variable {F : FTy → Type} [FloatOps F]

local notation "𝕄" => MT nD τ sig ℕ (Elt F) ℕ UU ℕ

/-- The two orders the peers are taken in, as reindexings. -/
def eS : Fin 3 ≃ Fin 3 := ⟨ordS, ordS, by decide, by decide⟩
def eR : Fin 3 ≃ Fin 3 := ⟨ordR, ![2, 0, 1], by decide, by decide⟩

theorem over_S (Φ : Fin 3 → sProp 𝕄) : bigSep Finset.univ Φ = bigSep Finset.univ fun i => Φ (ordS i) := bigSep_univ_equiv eS Φ
theorem over_R (Φ : Fin 3 → sProp 𝕄) : bigSep Finset.univ Φ = bigSep Finset.univ fun i => Φ (ordR i) := bigSep_univ_equiv eR Φ

theorem unit_lp (n : ℕ) (y : PUnit.{1}) (b : Fin n → PUnit.{1} → PUnit.{1}) (a : PUnit.{1}) : y = lpv n b a := rfl

variable (D : Inp F) (K : Dev nD × Ki → ℕ) (c : Dev nD) (l : Fin 3) (s : Fin 2)

/-! ## Sending the partials -/

/-- What one copy of a partial needs besides its source. -/
def sA (j : Fin 3) (h : Fin 4) : sProp 𝕄 :=
  iprop(rsFree (peerD c j) j.rev h l ∗ agFree c j h l ∗ dutyTok ER (cell c (kX 0 j h)) l 0 ∗ reached ER (cell c (kX 0 j h)) l ∗ dutyTok ER (cell (peerD c j) (kX 1 j.rev h)) l 0)

theorem sendBlock_spec (i : Fin 3) :
    iprop(recs D K ∗ (owesX c (24 * l.val + 4 * i.val) ∗ wiPts c s (B3 (D.wi l c))) ∗ ((∃ f, planePts c (ordS i) f) ∗ bigSep Finset.univ fun h => sA c l (ordS i) h))
    ⊢ WP c (sendBlock c s (XV D l c) (ordS i)) (fun _ => iprop((owesX c (24 * l.val + 4 * (i.val + 1)) ∗ wiPts c s (B3 (D.wi l c)))
        ∗ bigSep Finset.univ fun h : Fin 4 => cred (tallyAt (cell c (kX 0 (ordS i) h)) 0 N))) := by
  unfold sendBlock
  iintro ⟨#HR, ⟨HO, Hw⟩, ⟨⟨%f, Hp⟩, HA⟩⟩
  iapply (WP_bind c)
  iapply (WP_wand c _) $$ [Hw]
  · iapply (wi_load c s (D.wi l c) _ _ _ (peerD c (ordS i)) (off1_eq c _)) $$ Hw
  iintro %w ⟨%hw, Hw⟩
  subst hw
  iapply (WP_bind c)
  iapply (WP_wand c _) $$ [Hp]
  · iapply (plane_load c (ordS i) f _) $$ Hp
  iintro %_ Hp
  iapply (WP_bind c)
  iapply (WP_wand c _) $$ [Hp]
  · iapply (plane_store c (ordS i) _ f _ _) $$ Hp
  iintro %_ Hp
  have hs : (planePts c (ordS i) (B3 (truncf .bf16 (dotP (XV D l c) (wcols (D.wi l c) (peerD c (ordS i)))) bitsLt_bf16_f32)) : sProp 𝕄)
      = bigSep Finset.univ fun h : Fin 4 => pPts c (ordS i) h (B3 (PV D l c (peerD c (ordS i)))) := plane_split c (ordS i) _
  ihave Hp := (Entails.of_eq hs) $$ Hp
  have hloop := wp_loop c (recs D K) 4 (fun h _ => rsSend c (ordS i) h) (fun _ _ => ⟨⟩) (fun n => owesX c (24 * l.val + 4 * i.val + n))
    (fun h => iprop(pPts c (ordS i) h (B3 (PV D l c (peerD c (ordS i)))) ∗ sA c l (ordS i) h)) (fun h => cred (tallyAt (cell c (kX 0 (ordS i) h)) 0 N))
    (fun h _ => by
      have hr : rank (l, 0, ordS i, h) = 24 * l.val + 4 * i.val + h.val := by simp [rank, ordS_ordS, Nat.add_assoc]
      have := rsSend_spec D K c l (ordS i) h
      rw [hr] at this
      unfold sA
      refine this.trans (wp_mono _ _ _ fun y => ?_)
      iintro ⟨HO, HC⟩
      isplitr; · ipureintro; rfl
      isplitl [HO]; · iexact HO
      iexact HC) ⟨⟩
  rw [bigSep_sep'] at hloop
  iapply (WP_wand c _) $$ [HO Hp HA]
  · iapply hloop $$ [HO Hp HA]
    isplitr; · iexact HR
    isplitl [HO]; · iexact HO
    isplitl [Hp]; · iexact Hp
    iexact HA
  iintro %_ ⟨-, HO, HC⟩
  isplitr [HC]
  · isplitl [HO]; · iexact HO
    iexact Hw
  iexact HC

/-- All the partials of a layer are on their way. -/
theorem sends_spec :
    iprop(recs D K ∗ (owesX c (24 * l.val) ∗ wiPts c s (B3 (D.wi l c))) ∗ (bigSep Finset.univ fun j => iprop((∃ f, planePts c j f) ∗ bigSep Finset.univ fun h => sA c l j h)))
    ⊢ WP c (loop 3 (fun i _ => sendBlock c s (XV D l c) (ordS i)) ⟨⟩) (fun _ => iprop((owesX c (24 * l.val + 12) ∗ wiPts c s (B3 (D.wi l c)))
        ∗ bigSep Finset.univ fun j : Fin 3 => bigSep Finset.univ fun h : Fin 4 => cred (tallyAt (cell c (kX 0 j h)) 0 N))) := by
  rw [over_S, over_S (F := F) (fun j : Fin 3 => bigSep Finset.univ fun h : Fin 4 => cred (tallyAt (cell c (kX 0 j h)) 0 N))]
  refine BIBase.Entails.trans (wp_loop c (recs D K) 3 (fun i _ => sendBlock c s (XV D l c) (ordS i)) (fun _ _ => ⟨⟩) (fun n => iprop(owesX c (24 * l.val + 4 * n) ∗ wiPts c s (B3 (D.wi l c)))) _
    (fun i => bigSep Finset.univ fun h : Fin 4 => cred (tallyAt (cell c (kX 0 (ordS i) h)) 0 N)) (fun i _ => (sendBlock_spec D K c l s i).trans (wp_mono _ _ _ fun y => ?_)) ⟨⟩) (wp_mono _ _ _ fun y => ?_)
  · iintro H
    isplitr; · ipureintro; rfl
    iexact H
  · iintro ⟨-, H⟩; iexact H

/-! ## Taking in the partials -/

/-- What one arrival is waited for with, and what it leaves besides its slot. -/
def rA (k : Fin 3) (h : Fin 4) : sProp 𝕄 := iprop(cred (tallyAt (cell c (kX 1 k h)) l.val N) ∗ atPos ER (cell c (kX 1 k h)) l ∅ 0)
def rB (k : Fin 3) (h : Fin 4) : sProp 𝕄 :=
  iprop(atPos ER (cell c (kX 1 k h)) (l.val + 1) ∅ 0 ∗ reached ER (cell c (kX 1 k h)) (l.val + 1) ∗ (∃ f, rsPts c k h f) ∗ agFree (peerD c k) k.rev h l)

theorem rsRecv_spec (h : Fin 4) (k : Fin 3) (a : FVec F S64x128 .f32) (n : ℕ) (hn : 2 * l.val + 2 < 2 + n / 12) :
    iprop(recs D K ∗ owesX c n ∗ rA c l k h)
    ⊢ WP c (rsRecv h k a) (fun y => iprop(⌜y = addf a (ext (grp (PV D l (peerD c k) c) h))⌝ ∗ owesX c n ∗ rB c l k h)) := by
  unfold rsRecv rA
  iintro ⟨#HR, HO, Hc, Hat⟩
  iapply (WP_bind c)
  iapply (WP_wand c _) $$ [HO Hc Hat]
  · iapply (wait_spec D K c (kX 1 k h) l.val (rsR k h) rfl (if_pos l.isLt) l.val l.isLt n (show 2 + 2 * l.val < _ by omega) (rsView k h) (rsView k h) (rsView_words k h) (rsView_words k h) rfl) $$ [HO Hc Hat]
    isplitr; · iexact HR
    isplitl [HO]; · iexact HO
    isplitl [Hc]; · iexact Hc
    iexact Hat
  iintro %_ ⟨HO, Hat, Hre, Hpay⟩
  have hp : payK D c (kX 1 k h) l.val 0 = iprop(rsPts c k h (B3 (PV D l (peerD c k) c)) ∗ agFree (peerD c k) k.rev h l) := rfl
  ihave Hpay := (Entails.of_eq hp) $$ Hpay
  icases Hpay with ⟨Hs, HF⟩
  iapply (WP_bind c)
  iapply (WP_wand c _) $$ [Hs]
  · iapply (rs_load c k h (PV D l (peerD c k) c) _) $$ Hs
  iintro %v ⟨%hv, Hs⟩
  subst hv
  iapply (WP_pure c)
  isplitr; · ipureintro; rfl
  isplitl [HO]; · iexact HO
  unfold rB
  isplitl [Hat]; · iexact Hat
  isplitl [Hre]; · iexact Hre
  isplitl [Hs]
  · iexists (B3 (PV D l (peerD c k) c)); iexact Hs
  iexact HF

/-- A column group of the partials taken in, in order. -/
theorem recvs_spec (h : Fin 4) (n : ℕ) (hn : 2 * l.val + 2 < 2 + n / 12) (own : FVec F S64x512 .f32) :
    iprop(recs D K ∗ owesX c n ∗ bigSep Finset.univ fun k => rA c l k h)
    ⊢ WP c (loop 3 (fun i a => rsRecv h (ordR i) a) (extractStridedSlice S64x128 (moff h) own (slices_h h)))
      (fun y => iprop(⌜y = accv own (fun k => PV D l (peerD c k) c) h⌝ ∗ owesX c n ∗ bigSep Finset.univ fun k => rB c l k h)) := by
  rw [over_R, over_R (F := F) (fun k => rB c l k h)]
  exact wp_loop c (recs D K) 3 (fun i a => rsRecv h (ordR i) a) (fun i a => addf a (ext (grp (PV D l (peerD c (ordR i)) c) h))) (fun _ => owesX c n)
    _ (fun i => rB c l (ordR i) h) (fun i a => rsRecv_spec D K c l h (ordR i) a n hn) _

/-! ## One column group of the own quarter -/

/-- What one copy of the own quarter needs besides its source and the two slots. -/
def gA (j : Fin 3) (h : Fin 4) : sProp 𝕄 :=
  iprop(dutyTok ER (cell c (kX 2 j h)) l 0 ∗ reached ER (cell c (kX 2 j h)) l ∗ dutyTok ER (cell (peerD c j) (kX 3 j.rev h)) l 0)
/-- What an arrival's slot is kept as: handed back for the next layer, kept after the last. -/
def rKeep (k : Fin 3) (h : Fin 4) : sProp 𝕄 := if l.val < 2 then iprop(emp) else iprop(∃ f, rsPts c k h f)
def hB (j : Fin 3) (h : Fin 4) : sProp 𝕄 :=
  iprop(atPos ER (cell c (kX 1 j h)) (l.val + 1) ∅ 0 ∗ rKeep c l j h ∗ cred (tallyAt (cell c (kX 2 j h)) 0 N))

theorem rB_split (k : Fin 3) (h : Fin 4) :
    (rB c l k h : sProp 𝕄) ⊢ iprop((atPos ER (cell c (kX 1 k h)) (l.val + 1) ∅ 0 ∗ rKeep c l k h) ∗ agFree (peerD c k) k.rev h l ∗ (if l.val < 2 then rsFree c k h (l.val + 1) else emp)) := by
  unfold rB rKeep rsFree
  iintro ⟨Hat, Hre, Hs, HF⟩
  by_cases hl : l.val < 2
  · simp only [hl, if_true]
    isplitl [Hat]
    · isplitl [Hat]; · iexact Hat
      iempintro
    isplitl [HF]; · iexact HF
    isplitl [Hs]; · iexact Hs
    iexact Hre
  · simp only [hl, if_false]
    isplitl [Hat Hs]
    · isplitl [Hat]; · iexact Hat
      iexact Hs
    isplitl [HF]; · iexact HF
    iempintro

theorem hB_intro (j : Fin 3) (h : Fin 4) :
    iprop((atPos ER (cell c (kX 1 j h)) (l.val + 1) ∅ 0 ∗ rKeep c l j h) ∗ cred (tallyAt (cell c (kX 2 j h)) 0 N)) ⊢ (hB c l j h : sProp 𝕄) := by
  unfold hB
  iintro ⟨⟨H1, H2⟩, H3⟩
  isplitl [H1]; · iexact H1
  isplitl [H2]; · iexact H2
  iexact H3

theorem halfBlock_spec (h : Fin 4) (y : FVec F S64x1024 .f32) :
    iprop(recs D K ∗ (owesX c (24 * l.val + 12 + 3 * h.val) ∗ woPts c s (B3 (D.wo l c))) ∗ ((∃ f, mPts c h fullShare f) ∗ (bigSep Finset.univ fun k => rA c l k h) ∗ bigSep Finset.univ fun j => gA c l j h))
    ⊢ WP c (halfBlock c s (dotP (XV D l c) (wcols (D.wi l c) c)) h y)
      (fun z => iprop(⌜z = addf y (dotO (relu (ownv D (XV D l) l c h)) (wrows (D.wo l c) c h))⌝
        ∗ (owesX c (24 * l.val + 12 + 3 * (h.val + 1)) ∗ woPts c s (B3 (D.wo l c))) ∗ bigSep Finset.univ fun j => hB c l j h)) := by
  unfold halfBlock
  iintro ⟨#HR, ⟨HO, Hw⟩, ⟨⟨%f, Hm⟩, HA, HG⟩⟩
  iapply (WP_bind c)
  iapply (WP_wand c _) $$ [HO HA]
  · iapply (recvs_spec D K c l h (24 * l.val + 12 + 3 * h.val) (by omega) (dotP (XV D l c) (wcols (D.wi l c) c))) $$ [HO HA]
    isplitr; · iexact HR
    isplitl [HO]; · iexact HO
    iexact HA
  iintro %a ⟨%ha, HO, HB⟩
  have ha' : a = ownv D (XV D l) l c h := ha
  clear ha
  subst ha'
  iapply (WP_bind c)
  iapply (WP_wand c _) $$ [Hm]
  · iapply (m_load c h f _) $$ Hm
  iintro %_ Hm
  iapply (WP_bind c)
  iapply (WP_wand c _) $$ [Hm]
  · iapply (m_store c h (fun h => packM (relu (ownv D (XV D l) l c h))) f _ _) $$ Hm
  iintro %_ Hm
  have hs : (mPts c h fullShare (catM fun h => packM (relu (ownv D (XV D l) l c h))) : sProp 𝕄) = bigSep Finset.univ fun j : Fin 3 => mPts c h (qsh j) (MV D l c) := m_split c h _
  ihave Hm := (Entails.of_eq hs) $$ Hm
  have hB' : (bigSep Finset.univ fun k => rB (F := F) c l k h) ⊢ _ := bigSep_mono fun k _ => rB_split (F := F) c l k h
  rw [bigSep_sep'] at hB'
  ihave HB := hB' $$ HB
  icases HB with ⟨HK, HF⟩
  have hloop := wp_loop c (recs D K) 3 (fun i _ => agSend c h (ordS i)) (fun _ _ => ⟨⟩) (fun n => owesX c (24 * l.val + 12 + 3 * h.val + n))
    (fun i => iprop(mPts c h (qsh (ordS i)) (MV D l c) ∗ (agFree (peerD c (ordS i)) (ordS i).rev h l ∗ (if l.val < 2 then rsFree c (ordS i) h (l.val + 1) else emp)) ∗ gA c l (ordS i) h))
    (fun i => cred (tallyAt (cell c (kX 2 (ordS i) h)) 0 N))
    (fun i _ => by
      have hr : rank (l, 1, ordS i, h) = 24 * l.val + 12 + 3 * h.val + i.val := by simp [rank, ordS_ordS, Nat.add_assoc]
      have := agSend_spec D K c l (ordS i) h
      rw [hr] at this
      refine BIBase.Entails.trans ?_ (this.trans (wp_mono _ _ _ fun y => ?_))
      · unfold gA
        iintro ⟨HR, HO, Hm, ⟨HF, HF2⟩, H1, H2, H3⟩
        isplitl [HR]; · iexact HR
        isplitl [HO]; · iexact HO
        isplitl [Hm]; · iexact Hm
        isplitl [HF]; · iexact HF
        isplitl [HF2]; · iexact HF2
        isplitl [H1]; · iexact H1
        isplitl [H2]; · iexact H2
        iexact H3
      · iintro ⟨HO, HC⟩
        isplitr; · ipureintro; rfl
        isplitl [HO]; · iexact HO
        iexact HC) ⟨⟩
  rw [← over_S (F := F) (fun j => iprop(mPts c h (qsh j) (MV D l c) ∗ (agFree (peerD c j) j.rev h l ∗ (if l.val < 2 then rsFree c j h (l.val + 1) else emp)) ∗ gA c l j h)),
    ← over_S (F := F) (fun j => cred (tallyAt (cell c (kX 2 j h)) 0 N)), bigSep_sep', bigSep_sep'] at hloop
  iapply (WP_bind c)
  iapply (WP_wand c _) $$ [HO Hm HF HG]
  · iapply hloop $$ [HO Hm HF HG]
    isplitr; · iexact HR
    isplitl [HO]; · iexact HO
    isplitl [Hm]; · iexact Hm
    isplitl [HF]; · iexact HF
    iexact HG
  iintro %_ ⟨-, HO, HC⟩
  iapply (WP_bind c)
  iapply (WP_wand c _) $$ [Hw]
  · iapply (wo_load c s h (D.wo l c) _ _ _ c (off8_eq c h)) $$ Hw
  iintro %w ⟨%hw, Hw⟩
  subst hw
  iapply (WP_pure c)
  isplitr; · ipureintro; rfl
  isplitl [HO Hw]
  · isplitl [HO]; · iexact HO
    iexact Hw
  have hj : iprop((bigSep Finset.univ fun k => iprop(atPos ER (cell c (kX 1 k h)) (l.val + 1) ∅ 0 ∗ rKeep c l k h)) ∗ bigSep Finset.univ fun k => cred (tallyAt (cell c (kX 2 k h)) 0 N))
      ⊢ (bigSep Finset.univ fun j => hB c l j h : sProp 𝕄) := by
    rw [← bigSep_sep']
    exact bigSep_mono fun j _ => hB_intro c l j h
  iapply hj $$ [HK HC]
  isplitl [HK]; · iexact HK
  iexact HC

/-- The own quarter is summed, rectified, on its way to the peers, and multiplied. -/
theorem halves_spec (y : FVec F S64x1024 .f32) :
    iprop(recs D K ∗ (owesX c (24 * l.val + 12) ∗ woPts c s (B3 (D.wo l c)))
      ∗ bigSep Finset.univ fun h => iprop((∃ f, mPts c h fullShare f) ∗ (bigSep Finset.univ fun k => rA c l k h) ∗ bigSep Finset.univ fun j => gA c l j h))
    ⊢ WP c (loop 4 (halfBlock c s (dotP (XV D l c) (wcols (D.wi l c) c))) y)
      (fun z => iprop(⌜z = lpv 4 (fun h y => addf y (dotO (relu (ownv D (XV D l) l c h)) (wrows (D.wo l c) c h))) y⌝
        ∗ (owesX c (24 * l.val + 24) ∗ woPts c s (B3 (D.wo l c))) ∗ bigSep Finset.univ fun h => bigSep Finset.univ fun j => hB c l j h)) :=
  wp_loop c (recs D K) 4 (halfBlock c s (dotP (XV D l c) (wcols (D.wi l c) c))) (fun h y => addf y (dotO (relu (ownv D (XV D l) l c h)) (wrows (D.wo l c) c h)))
    (fun n => iprop(owesX c (24 * l.val + 12 + 3 * n) ∗ woPts c s (B3 (D.wo l c)))) _ (fun h => bigSep Finset.univ fun j => hB c l j h)
    (fun h y => halfBlock_spec D K c l s h y) y

/-! ## Taking in the peers' quarters -/

def cA (k : Fin 3) (h : Fin 4) : sProp 𝕄 := iprop(cred (tallyAt (cell c (kX 3 k h)) l.val N) ∗ atPos ER (cell c (kX 3 k h)) l ∅ 0)
def cB (k : Fin 3) (h : Fin 4) : sProp 𝕄 :=
  iprop(atPos ER (cell c (kX 3 k h)) (l.val + 1) ∅ 0 ∗ reached ER (cell c (kX 3 k h)) (l.val + 1) ∗ (∃ f, agPts c k h f)
    ∗ (if l.val < 2 then rsFree (peerD c k) k.rev h (l.val + 1) else iprop(emp)))

theorem agRecv_spec (h : Fin 4) (k : Fin 3) (y : FVec F S64x1024 .f32) :
    iprop(recs D K ∗ (owesX c (24 * l.val + 24) ∗ woPts c s (B3 (D.wo l c))) ∗ cA c l k h)
    ⊢ WP c (agRecv c s h k y) (fun z => iprop(⌜z = addf y (dotO (ext (grp (MV D l (peerD c k)) h)) (wrows (D.wo l c) (peerD c k) h))⌝
        ∗ (owesX c (24 * l.val + 24) ∗ woPts c s (B3 (D.wo l c))) ∗ cB c l k h)) := by
  unfold agRecv cA
  iintro ⟨#HR, ⟨HO, Hw⟩, Hc, Hat⟩
  iapply (WP_bind c)
  iapply (WP_wand c _) $$ [HO Hc Hat]
  · iapply (wait_spec D K c (kX 3 k h) l.val (agR k h) rfl (if_pos l.isLt) l.val l.isLt (24 * l.val + 24) (show 3 + 2 * l.val < _ by omega) (agView k h) (agView k h) (agView_words k h) (agView_words k h) rfl) $$ [HO Hc Hat]
    isplitr; · iexact HR
    isplitl [HO]; · iexact HO
    isplitl [Hc]; · iexact Hc
    iexact Hat
  iintro %_ ⟨HO, Hat, Hre, Hpay⟩
  have hp : payK D c (kX 3 k h) l.val 0 = iprop(agPts c k h (B3 (MV D l (peerD c k))) ∗ (if l.val < 2 then rsFree (peerD c k) k.rev h (l.val + 1) else iprop(emp))) := rfl
  ihave Hpay := (Entails.of_eq hp) $$ Hpay
  icases Hpay with ⟨Hs, HF⟩
  iapply (WP_bind c)
  iapply (WP_wand c _) $$ [Hs]
  · iapply (ag_load c k h (MV D l (peerD c k)) _) $$ Hs
  iintro %v ⟨%hv, Hs⟩
  subst hv
  iapply (WP_bind c)
  iapply (WP_wand c _) $$ [Hw]
  · iapply (wo_load c s h (D.wo l c) _ _ _ (peerD c k) (off9_eq c k h)) $$ Hw
  iintro %w ⟨%hw, Hw⟩
  subst hw
  iapply (WP_pure c)
  isplitr; · ipureintro; rfl
  isplitl [HO Hw]
  · isplitl [HO]; · iexact HO
    iexact Hw
  unfold cB
  isplitl [Hat]; · iexact Hat
  isplitl [Hre]; · iexact Hre
  isplitl [Hs]
  · iexists (B3 (MV D l (peerD c k))); iexact Hs
  iexact HF

/-- The peers' quarters are taken in and multiplied, in order. -/
theorem agRecvs_spec (y : FVec F S64x1024 .f32) :
    iprop(recs D K ∗ (owesX c (24 * l.val + 24) ∗ woPts c s (B3 (D.wo l c))) ∗ bigSep Finset.univ fun h => bigSep Finset.univ fun k => cA c l k h)
    ⊢ WP c (loop 4 (fun h y => loop 3 (fun i y => agRecv c s h (ordR i) y) y) y)
      (fun z => iprop(⌜z = lpv 4 (fun h y => lpv 3 (fun i y => addf y (dotO (ext (grp (MV D l (peerD c (ordR i))) h)) (wrows (D.wo l c) (peerD c (ordR i)) h))) y) y⌝
        ∗ (owesX c (24 * l.val + 24) ∗ woPts c s (B3 (D.wo l c))) ∗ bigSep Finset.univ fun h => bigSep Finset.univ fun k => cB c l k h)) := by
  refine wp_loop c (recs D K) 4 (fun h y => loop 3 (fun i y => agRecv c s h (ordR i) y) y) _ (fun _ => iprop(owesX c (24 * l.val + 24) ∗ woPts c s (B3 (D.wo l c)))) _ (fun h => bigSep Finset.univ fun k => cB c l k h)
    (fun h y => ?_) y
  rw [over_R (F := F) (fun k => cA c l k h), over_R (F := F) (fun k => cB c l k h)]
  exact wp_loop c (recs D K) 3 (fun i y => agRecv c s h (ordR i) y) _ (fun _ => iprop(owesX c (24 * l.val + 24) ∗ woPts c s (B3 (D.wo l c)))) _ (fun i => cB c l (ordR i) h)
    (fun i y => agRecv_spec D K c l s h (ordR i) y) y

/-! ## The copies out are done -/

def dA (t : Fin 4) (j : Fin 3) (h : Fin 4) : sProp 𝕄 := iprop(cred (tallyAt (cell c (kX t j h)) 0 N) ∗ atPos ER (cell c (kX t j h)) l ∅ 0)
def dB (t : Fin 4) (j : Fin 3) (h : Fin 4) : sProp 𝕄 := iprop(atPos ER (cell c (kX t j h)) (l.val + 1) ∅ 0 ∗ reached ER (cell c (kX t j h)) (l.val + 1))

theorem rsDone_spec (j : Fin 3) (h : Fin 4) (n : ℕ) :
    iprop(recs D K ∗ owesX c n ∗ dA c l 0 j h)
    ⊢ WP c (rsDone c j h) (fun _ => iprop(owesX c n ∗ dB c l 0 j h ∗ pPts c j h (B3 (PV D l c (peerD c j))))) := by
  unfold rsDone dA dB
  iintro ⟨#HR, HO, Hc, Hat⟩
  iapply (WP_wand c _) $$ [HO Hc Hat]
  · iapply (wait_spec D K c (kX 0 j h) l.val (rsS j h) rfl (if_pos l.isLt) 0 (by omega) n (show 0 < 2 + n / 12 by omega) (rsView j.rev h) (pView c j h) (rsView_words j.rev h) (pView_words c j h) rfl) $$ [HO Hc Hat]
    isplitr; · iexact HR
    isplitl [HO]; · iexact HO
    isplitl [Hc]; · iexact Hc
    iexact Hat
  iintro %_ ⟨HO, Hat, Hre, Hpay⟩
  have hp : payK D c (kX 0 j h) l.val 0 = pPts c j h (B3 (PV D l c (peerD c j))) := rfl
  ihave Hpay := (Entails.of_eq hp) $$ Hpay
  isplitl [HO]; · iexact HO
  isplitl [Hat Hre]
  · isplitl [Hat]; · iexact Hat
    iexact Hre
  iexact Hpay
theorem agDone_spec (j : Fin 3) (h : Fin 4) (n : ℕ) :
    iprop(recs D K ∗ owesX c n ∗ dA c l 2 j h)
    ⊢ WP c (agDone h j) (fun _ => iprop(owesX c n ∗ dB c l 2 j h ∗ mPts c h (qsh j) (MV D l c))) := by
  unfold agDone dA dB
  iintro ⟨#HR, HO, Hc, Hat⟩
  iapply (WP_wand c _) $$ [HO Hc Hat]
  · iapply (wait_spec D K c (kX 2 j h) l.val (agS j h) rfl (if_pos l.isLt) 0 (by omega) n (show 0 < 2 + n / 12 by omega) (agView j.rev h) (mView h) (agView_words j.rev h) (mView_words h) rfl) $$ [HO Hc Hat]
    isplitr; · iexact HR
    isplitl [HO]; · iexact HO
    isplitl [Hc]; · iexact Hc
    iexact Hat
  iintro %_ ⟨HO, Hat, Hre, Hpay⟩
  have hp : payK D c (kX 2 j h) l.val 0 = mPts c h (qsh j) (MV D l c) := rfl
  ihave Hpay := (Entails.of_eq hp) $$ Hpay
  isplitl [HO]; · iexact HO
  isplitl [Hat Hre]
  · isplitl [Hat]; · iexact Hat
    iexact Hre
  iexact Hpay

/-- The copies of the partials are done: their planes are the device's again. -/
theorem rsDones_spec (n : ℕ) :
    iprop(recs D K ∗ owesX c n ∗ bigSep Finset.univ fun j => bigSep Finset.univ fun h => dA c l 0 j h)
    ⊢ WP c (loop 3 (fun i _ => loop 4 (fun h _ => rsDone c (ordS i) h) ⟨⟩) ⟨⟩)
      (fun _ => iprop(owesX c n ∗ bigSep Finset.univ fun j => iprop((bigSep Finset.univ fun h => dB c l 0 j h) ∗ (∃ f, planePts c j f)))) := by
  rw [over_S, over_S (F := F) (fun j => iprop((bigSep Finset.univ fun h => dB c l 0 j h) ∗ (∃ f, planePts c j f)))]
  refine BIBase.Entails.trans (wp_loop c (recs D K) 3 (fun i _ => loop 4 (fun h _ => rsDone c (ordS i) h) ⟨⟩) (fun _ _ => ⟨⟩) (fun _ => owesX c n) _
    (fun i => iprop((bigSep Finset.univ fun h => dB c l 0 (ordS i) h) ∗ (∃ f, planePts c (ordS i) f))) (fun i _ => ?_) ⟨⟩) (wp_mono _ _ _ fun y => ?_)
  · refine BIBase.Entails.trans (wp_loop c (recs D K) 4 (fun h _ => rsDone c (ordS i) h) (fun _ _ => ⟨⟩) (fun _ => owesX c n) _
      (fun h => iprop(dB c l 0 (ordS i) h ∗ pPts c (ordS i) h (B3 (PV D l c (peerD c (ordS i)))))) (fun h _ => (rsDone_spec D K c l (ordS i) h n).trans (wp_mono _ _ _ fun y => ?_)) ⟨⟩) (wp_mono _ _ _ fun y => ?_)
    · iintro H
      isplitr; · ipureintro; rfl
      iexact H
    · rw [bigSep_sep', ← plane_split]
      iintro ⟨-, HO, HD, HP⟩
      isplitr; · ipureintro; rfl
      isplitl [HO]; · iexact HO
      isplitl [HD]; · iexact HD
      iexists _; iexact HP
  · iintro ⟨-, H⟩; iexact H
/-- The copies of the own quarter are done: it is the device's again, whole. -/
theorem agDones_spec (n : ℕ) :
    iprop(recs D K ∗ owesX c n ∗ bigSep Finset.univ fun h => bigSep Finset.univ fun j => dA c l 2 j h)
    ⊢ WP c (loop 4 (fun h _ => loop 3 (fun i _ => agDone h (ordS i)) ⟨⟩) ⟨⟩)
      (fun _ => iprop(owesX c n ∗ bigSep Finset.univ fun h => iprop((bigSep Finset.univ fun j => dB c l 2 j h) ∗ (∃ f, mPts c h fullShare f)))) := by
  refine BIBase.Entails.trans (wp_loop c (recs D K) 4 (fun h _ => loop 3 (fun i _ => agDone h (ordS i)) ⟨⟩) (fun _ _ => ⟨⟩) (fun _ => owesX c n) _
    (fun h => iprop((bigSep Finset.univ fun j => dB c l 2 j h) ∗ (∃ f, mPts c h fullShare f))) (fun h _ => ?_) ⟨⟩) (wp_mono _ _ _ fun y => ?_)
  · rw [over_S (F := F) (fun j => dA c l 2 j h)]
    refine BIBase.Entails.trans (wp_loop c (recs D K) 3 (fun i _ => agDone h (ordS i)) (fun _ _ => ⟨⟩) (fun _ => owesX c n) _
      (fun i => iprop(dB c l 2 (ordS i) h ∗ mPts c h (qsh (ordS i)) (MV D l c))) (fun i _ => (agDone_spec D K c l (ordS i) h n).trans (wp_mono _ _ _ fun y => ?_)) ⟨⟩) (wp_mono _ _ _ fun y => ?_)
    · iintro H
      isplitr; · ipureintro; rfl
      iexact H
    · rw [← over_S (F := F) (fun j => iprop(dB c l 2 j h ∗ mPts c h (qsh j) (MV D l c))), bigSep_sep', ← m_split]
      iintro ⟨-, HO, HD, HP⟩
      isplitr; · ipureintro; rfl
      isplitl [HO]; · iexact HO
      isplitl [HD]; · iexact HD
      iexists _; iexact HP
  · iintro ⟨-, H⟩; iexact H

end Cert.KernelIdeal.Mlp
-- ==== Proof.Layer.lean ====
/-
  One layer: what a device holds before it, after it, and what it computes.
-/
module

public import proofs.«01_k».proof.Proof.Blocks

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Facts₀ Cert.KernelIdeal.Facts

variable {F : FTy → Type} [FloatOps F]

local notation "𝕄" => MT nD τ sig ℕ (Elt F) ℕ UU ℕ

/-! ## Resources by peer and column group -/

/-- One thing for each peer and column group. -/
def bb (Φ : Fin 3 → Fin 4 → sProp 𝕄) : sProp 𝕄 := bigSep Finset.univ fun j => bigSep Finset.univ fun h => Φ j h

theorem bb_mono {Φ Ψ : Fin 3 → Fin 4 → sProp 𝕄} (H : ∀ j h, Φ j h ⊢ Ψ j h) : bb Φ ⊢ bb Ψ :=
  bigSep_mono fun j _ => bigSep_mono fun h _ => H j h
theorem bb_sep (Φ Ψ : Fin 3 → Fin 4 → sProp 𝕄) : bb (fun j h => iprop(Φ j h ∗ Ψ j h)) = iprop(bb Φ ∗ bb Ψ) := by
  unfold bb
  rw [← bigSep_sep']
  exact bigSep_congr fun j _ => bigSep_sep' _ _ _
theorem bb_def (Φ : Fin 3 → Fin 4 → sProp 𝕄) : bb Φ = bigSep Finset.univ fun j => bigSep Finset.univ fun h => Φ j h := rfl
theorem bb_swap (Φ : Fin 3 → Fin 4 → sProp 𝕄) : bb Φ = bigSep Finset.univ fun h => bigSep Finset.univ fun j => Φ j h := bigSep_univ_comm _

variable (D : Inp F) (K : Dev nD × Ki → ℕ) (c : Dev nD)

/-- The slot a layer's partial goes to; after the last layer the own slot instead. -/
def RsTok (l : ℕ) (j : Fin 3) (h : Fin 4) : sProp 𝕄 := if l < 3 then rsFree (peerD c j) j.rev h l else iprop(∃ f, rsPts c j h f)
/-- What a device holds for a peer and a column group between layers. -/
def St (l : ℕ) (j : Fin 3) (h : Fin 4) : sProp 𝕄 :=
  iprop(RsTok c l j h ∗ (∃ f, agPts c j h f) ∗ (atPos ER (cell c (kX 0 j h)) l ∅ 0 ∗ reached ER (cell c (kX 0 j h)) l) ∗ atPos ER (cell c (kX 1 j h)) l ∅ 0
    ∗ (atPos ER (cell c (kX 2 j h)) l ∅ 0 ∗ reached ER (cell c (kX 2 j h)) l) ∗ (atPos ER (cell c (kX 3 j h)) l ∅ 0 ∗ reached ER (cell c (kX 3 j h)) l))
/-- What a layer uses up for a peer and a column group. -/
def Tok (l : ℕ) (j : Fin 3) (h : Fin 4) : sProp 𝕄 :=
  iprop(cred (tallyAt (cell c (kX 1 j h)) l N) ∗ cred (tallyAt (cell c (kX 3 j h)) l N) ∗ dutyTok ER (cell c (kX 0 j h)) l 0 ∗ dutyTok ER (cell (peerD c j) (kX 1 j.rev h)) l 0
    ∗ dutyTok ER (cell c (kX 2 j h)) l 0 ∗ dutyTok ER (cell (peerD c j) (kX 3 j.rev h)) l 0)
/-- What a device holds between layers. -/
def LS (l : ℕ) : sProp 𝕄 := iprop(bb (St c l) ∗ (bigSep Finset.univ fun j => iprop(∃ f, planePts c j f)) ∗ bigSep Finset.univ fun h => iprop(∃ f, mPts c h fullShare f))

theorem open_one (l : Fin 3) (j : Fin 3) (h : Fin 4) :
    iprop(St c l j h ∗ Tok c l j h) ⊢ (iprop(sA c l j h ∗ rA c l j h ∗ gA c l j h ∗ cA c l j h ∗ atPos ER (cell c (kX 0 j h)) l ∅ 0 ∗ atPos ER (cell c (kX 2 j h)) l ∅ 0) : sProp 𝕄) := by
  unfold St Tok RsTok sA rA gA cA agFree
  rw [if_pos l.isLt]
  iintro ⟨⟨Hs, Ha, ⟨Hp0, Hr0⟩, Hp1, ⟨Hp2, Hr2⟩, ⟨Hp3, Hr3⟩⟩, Hc1, Hc3, Ht0, Ht1, Ht2, Ht3⟩
  isplitl [Hs Ha Hr3 Ht0 Hr0 Ht1]
  · isplitl [Hs]; · iexact Hs
    isplitl [Ha Hr3]
    · isplitl [Ha]; · iexact Ha
      iexact Hr3
    isplitl [Ht0]; · iexact Ht0
    isplitl [Hr0]; · iexact Hr0
    iexact Ht1
  isplitl [Hc1 Hp1]
  · isplitl [Hc1]; · iexact Hc1
    iexact Hp1
  isplitl [Ht2 Hr2 Ht3]
  · isplitl [Ht2]; · iexact Ht2
    isplitl [Hr2]; · iexact Hr2
    iexact Ht3
  isplitl [Hc3 Hp3]
  · isplitl [Hc3]; · iexact Hc3
    iexact Hp3
  isplitl [Hp0]; · iexact Hp0
  iexact Hp2

theorem slot_next (l : Fin 3) (j : Fin 3) (h : Fin 4) :
    iprop(rKeep c l j h ∗ (if l.val < 2 then rsFree (peerD c j) j.rev h (l.val + 1) else iprop(emp))) ⊢ (RsTok c (l.val + 1) j h : sProp 𝕄) := by
  unfold rKeep RsTok
  by_cases hl : l.val < 2
  · rw [if_pos hl, if_pos hl, if_pos (by omega)]
    iintro ⟨-, H⟩; iexact H
  · rw [if_neg hl, if_neg hl, if_neg (by omega)]
    iintro ⟨H, -⟩; iexact H

theorem close_one (l : Fin 3) (j : Fin 3) (h : Fin 4) :
    iprop((atPos ER (cell c (kX 1 j h)) (l.val + 1) ∅ 0 ∗ rKeep c l j h) ∗ cB c l j h ∗ dB c l 0 j h ∗ dB c l 2 j h) ⊢ (St c (l.val + 1) j h : sProp 𝕄) := by
  unfold St cB dB
  iintro ⟨⟨Hp1, HK⟩, ⟨Hp3, Hr3, Ha, HF⟩, ⟨Hp0, Hr0⟩, Hp2, Hr2⟩
  isplitl [HK HF]
  · iapply (slot_next c l j h)
    isplitl [HK]; · iexact HK
    iexact HF
  isplitl [Ha]; · iexact Ha
  isplitl [Hp0 Hr0]
  · isplitl [Hp0]; · iexact Hp0
    iexact Hr0
  isplitl [Hp1]; · iexact Hp1
  isplitl [Hp2 Hr2]
  · isplitl [Hp2]; · iexact Hp2
    iexact Hr2
  isplitl [Hp3]; · iexact Hp3
  iexact Hr3

theorem open_all (l : Fin 3) :
    iprop(bb (St c l) ∗ bb (Tok c l)) ⊢ (iprop(bb (sA c l) ∗ bb (rA c l) ∗ bb (gA c l) ∗ bb (cA c l) ∗ bb (fun j h => atPos ER (cell c (kX 0 j h)) l ∅ 0) ∗ bb (fun j h => atPos ER (cell c (kX 2 j h)) l ∅ 0)) : sProp 𝕄) := by
  rw [← bb_sep, ← bb_sep, ← bb_sep, ← bb_sep, ← bb_sep, ← bb_sep]
  exact bb_mono fun j h => open_one c l j h
theorem close_all (l : Fin 3) :
    iprop(bb (fun j h => iprop(atPos ER (cell c (kX 1 j h)) (l.val + 1) ∅ 0 ∗ rKeep c l j h)) ∗ bb (cB c l) ∗ bb (dB c l 0) ∗ bb (dB c l 2)) ⊢ (bb (St c (l.val + 1)) : sProp 𝕄) := by
  rw [← bb_sep, ← bb_sep, ← bb_sep]
  exact bb_mono fun j h => close_one c l j h
theorem done_all (l : Fin 3) (t : Fin 4) :
    iprop(bb (fun j h => cred (tallyAt (cell c (kX t j h)) 0 N)) ∗ bb (fun j h => atPos ER (cell c (kX t j h)) l ∅ 0)) ⊢ (bb (dA c l t) : sProp 𝕄) := by
  rw [← bb_sep]
  exact bb_mono fun j h => by unfold dA; exact .rfl
theorem hB_all (l : Fin 3) :
    bb (fun j h => hB c l j h) ⊢ (iprop(bb (fun j h => iprop(atPos ER (cell c (kX 1 j h)) (l.val + 1) ∅ 0 ∗ rKeep c l j h)) ∗ bb (fun j h => cred (tallyAt (cell c (kX 2 j h)) 0 N))) : sProp 𝕄) := by
  rw [← bb_sep]
  refine bb_mono fun j h => ?_
  unfold hB
  iintro ⟨H1, H2, H3⟩
  isplitr [H3]
  · isplitl [H1]; · iexact H1
    iexact H2
  iexact H3

/-! ## The weights -/

/-- A wait for a layer's weights takes its credit, at its round. -/
def wA (s b : Fin 2) (r : ℕ) : sProp 𝕄 := iprop(cred (tallyAt (cell c (kW s b)) 0 (NW b)) ∗ atPos ER (cell c (kW s b)) r ∅ 0)
/-- What the two fetches of a layer leave. -/
def wB (s b : Fin 2) (r : ℕ) : sProp 𝕄 := iprop(atPos ER (cell c (kW s b)) (r + 1) ∅ 0 ∗ reached ER (cell c (kW s b)) (r + 1))

/-- The credit of a weight fetch. -/
theorem credit_wi (s : Fin 2) : (wiView s).view.dmaCredit = NW 0 := (if_pos rfl).symm
theorem credit_wo (s : Fin 2) : (woView s).view.dmaCredit = NW 1 := (if_neg (by decide)).symm
theorem amt_w (s b : Fin 2) : amtK (kW s b) = NW b := rfl
theorem winWait_spec (s : Fin 2) (r : ℕ) (hr : r < (if s = 0 then 2 else 1)) (l : ℕ) (hl : lay s r = l) (n : ℕ) (src) (hw) :
    iprop(recs D K ∗ owesX c n ∗ wA c s 0 r)
    ⊢ WP c (winWait src hw s) (fun _ => iprop(owesX c n ∗ wB c s 0 r ∗ wiPts c s (B3 (D.wi l c)) ∗ argI D c l)) := by
  subst hl
  unfold winWait wA wB
  iintro ⟨#HR, HO, Hc, Hat⟩
  iapply (WP_wand c _) $$ [HO Hc Hat]
  · iapply (wait_spec D K c (kW s 0) r (wSem s 0) rfl (if_pos hr) 0 (by omega) n (show 0 < 2 + n / 12 by omega) src (wiView s) hw ((View.wordExact_bits rfl).reshape _ _) (credit_wi s)) $$ [HO Hc Hat]
    isplitr; · iexact HR
    isplitl [HO]; · iexact HO
    isplitl [Hc]; · iexact Hc
    iexact Hat
  iintro %_ ⟨HO, Hat, Hre, Hpay⟩
  have hp : payK D c (kW s 0) r 0 = iprop(wiPts c s (B3 (D.wi (lay s r) c)) ∗ argI D c (lay s r)) := by
    show wPay D c s 0 r = _
    unfold wPay; exact if_pos rfl
  ihave Hpay := (Entails.of_eq hp) $$ Hpay
  isplitl [HO]; · iexact HO
  isplitl [Hat Hre]
  · isplitl [Hat]; · iexact Hat
    iexact Hre
  iexact Hpay
theorem woutWait_spec (s : Fin 2) (r : ℕ) (hr : r < (if s = 0 then 2 else 1)) (l : ℕ) (hl : lay s r = l) (n : ℕ) (src) (hw) :
    iprop(recs D K ∗ owesX c n ∗ wA c s 1 r)
    ⊢ WP c (woutWait src hw s) (fun _ => iprop(owesX c n ∗ wB c s 1 r ∗ woPts c s (B3 (D.wo l c)) ∗ argO D c l)) := by
  subst hl
  unfold woutWait wA wB
  iintro ⟨#HR, HO, Hc, Hat⟩
  iapply (WP_wand c _) $$ [HO Hc Hat]
  · iapply (wait_spec D K c (kW s 1) r (wSem s 1) rfl (if_pos hr) 0 (by omega) n (show 0 < 2 + n / 12 by omega) src (woView s) hw ((View.wordExact_bits rfl).reshape _ _) (credit_wo s)) $$ [HO Hc Hat]
    isplitr; · iexact HR
    isplitl [HO]; · iexact HO
    isplitl [Hc]; · iexact Hc
    iexact Hat
  iintro %_ ⟨HO, Hat, Hre, Hpay⟩
  have hp : payK D c (kW s 1) r 0 = iprop(woPts c s (B3 (D.wo (lay s r) c)) ∗ argO D c (lay s r)) := by
    show wPay D c s 1 r = _
    unfold wPay; exact if_neg (by decide)
  ihave Hpay := (Entails.of_eq hp) $$ Hpay
  isplitl [HO]; · iexact HO
  isplitl [Hat Hre]
  · isplitl [Hat]; · iexact Hat
    iexact Hre
  iexact Hpay

/-! ## A layer -/

/-- What a layer's weights leave: the slots at any contents and the weights where they came from. -/
def wEnd (s : Fin 2) (r l : ℕ) : sProp 𝕄 :=
  iprop((wB c s 0 r ∗ (∃ f, wiPts c s f) ∗ argI D c l) ∗ (wB c s 1 r ∗ (∃ f, woPts c s f) ∗ argO D c l))

/-- What a layer computes. -/
theorem XV_succ (l : ℕ) : XV D (l + 1) c = lpv 4 (fun h y => lpv 3 (fun i y => addf y (dotO (ext (grp (MV D l (peerD c (ordR i))) h)) (wrows (D.wo l c) (peerD c (ordR i)) h))) y)
    (lpv 4 (fun h y => addf y (dotO (relu (ownv D (XV D l) l c h)) (wrows (D.wo l c) c h))) (broadcast S64x1024 (Scalar.ofBits .f32 0x00000000#32))) := by
  show nextX D (XV D l) l c = _
  unfold nextX outv
  rfl

theorem layer_spec (l : Fin 3) (s : Fin 2) (r : ℕ) (hr : r < (if s = 0 then 2 else 1)) (hl : lay s r = l.val) (wi) (hwi) (wo) (hwo) :
    iprop(recs D K ∗ owesX c (24 * l.val) ∗ LS c l ∗ bb (Tok c l) ∗ wA c s 0 r ∗ wA c s 1 r)
    ⊢ WP c (layer c wi hwi wo hwo s (XV D l c)) (fun z => iprop(⌜z = XV D (l.val + 1) c⌝ ∗ owesX c (24 * l.val + 24) ∗ LS c (l.val + 1) ∗ wEnd D c s r l)) := by
  unfold layer LS
  iintro ⟨#HR, HO, ⟨HSt, Hpl, Hm⟩, HT, HwI, HwO⟩
  ihave HT := (open_all c l) $$ [HSt HT]
  · isplitl [HSt]; · iexact HSt
    iexact HT
  icases HT with ⟨HsA, HrA, HgA, HcA, Hp0, Hp2⟩
  -- the first weights
  iapply (WP_bind c)
  iapply (WP_wand c _) $$ [HO HwI]
  · iapply (winWait_spec D K c s r hr l hl (24 * l.val) wi hwi) $$ [HO HwI]
    isplitr; · iexact HR
    isplitl [HO]; · iexact HO
    iexact HwI
  iintro %_ ⟨HO, HwI, Hwi, HaI⟩
  -- the partials go out
  iapply (WP_bind c)
  iapply (WP_wand c _) $$ [HO Hwi Hpl HsA]
  · iapply (sends_spec D K c l s) $$ [HO Hwi Hpl HsA]
    isplitr; · iexact HR
    isplitl [HO Hwi]
    · isplitl [HO]; · iexact HO
      iexact Hwi
    ihave HsA := (Entails.of_eq (bb_def (sA c l))) $$ HsA
    ihave H := (Entails.of_eq (bigSep_sep' (M := 𝕄) Finset.univ (fun j => iprop(∃ f, planePts c j f)) (fun j => bigSep Finset.univ fun h => sA c l j h)).symm) $$ [Hpl HsA]
    · isplitl [Hpl]; · iexact Hpl
      iexact HsA
    iexact H
  iintro %_ ⟨⟨HO, Hwi⟩, HC0⟩
  ihave HC0 := (Entails.of_eq (bb_def (F := F) (fun j h => cred (tallyAt (cell c (kX 0 j h)) 0 N))).symm) $$ HC0
  -- the own columns
  iapply (WP_bind c)
  iapply (WP_wand c _) $$ [Hwi]
  · iapply (wi_load c s (D.wi l c) _ _ _ c (off7_eq c)) $$ Hwi
  iintro %w ⟨%hw, Hwi⟩
  subst hw
  -- the second weights
  iapply (WP_bind c)
  iapply (WP_wand c _) $$ [HO HwO]
  · iapply (woutWait_spec D K c s r hr l hl (24 * l.val + 12) wo hwo) $$ [HO HwO]
    isplitr; · iexact HR
    isplitl [HO]; · iexact HO
    iexact HwO
  iintro %_ ⟨HO, HwO, Hwo, HaO⟩
  -- the own quarter
  iapply (WP_bind c)
  iapply (WP_wand c _) $$ [HO Hwo Hm HrA HgA]
  · iapply (halves_spec D K c l s _) $$ [HO Hwo Hm HrA HgA]
    isplitr; · iexact HR
    isplitl [HO Hwo]
    · isplitl [HO]; · iexact HO
      iexact Hwo
    ihave HrA := (Entails.of_eq (bb_swap (rA c l))) $$ HrA
    ihave HgA := (Entails.of_eq (bb_swap (gA c l))) $$ HgA
    ihave H := (Entails.of_eq (bigSep_sep' (M := 𝕄) Finset.univ (fun h => bigSep Finset.univ fun k => rA c l k h) (fun h => bigSep Finset.univ fun j => gA c l j h)).symm) $$ [HrA HgA]
    · isplitl [HrA]; · iexact HrA
      iexact HgA
    ihave H := (Entails.of_eq (bigSep_sep' (M := 𝕄) Finset.univ (fun h => iprop(∃ f, mPts c h fullShare f)) (fun h => iprop((bigSep Finset.univ fun k => rA c l k h) ∗ bigSep Finset.univ fun j => gA c l j h))).symm) $$ [Hm H]
    · isplitl [Hm]; · iexact Hm
      iexact H
    iexact H
  iintro %y ⟨%hy, ⟨HO, Hwo⟩, HB⟩
  subst hy
  ihave HB := (Entails.of_eq (bb_swap (hB c l)).symm) $$ HB
  ihave HB := (hB_all c l) $$ HB
  icases HB with ⟨HK, HC2⟩
  -- the peers' quarters
  iapply (WP_bind c)
  iapply (WP_wand c _) $$ [HO Hwo HcA]
  · iapply (agRecvs_spec D K c l s _) $$ [HO Hwo HcA]
    isplitr; · iexact HR
    isplitl [HO Hwo]
    · isplitl [HO]; · iexact HO
      iexact Hwo
    ihave HcA := (Entails.of_eq (bb_swap (cA c l))) $$ HcA
    iexact HcA
  iintro %z ⟨%hz, ⟨HO, Hwo⟩, HcB⟩
  have hz' : z = XV D (l.val + 1) c := hz.trans (XV_succ D c l.val).symm
  clear hz
  subst hz'
  ihave HcB := (Entails.of_eq (bb_swap (cB c l)).symm) $$ HcB
  -- the copies out
  iapply (WP_bind c)
  iapply (WP_wand c _) $$ [HO HC0 Hp0]
  · iapply (rsDones_spec D K c l (24 * l.val + 24)) $$ [HO HC0 Hp0]
    isplitr; · iexact HR
    isplitl [HO]; · iexact HO
    ihave H := (done_all c l 0) $$ [HC0 Hp0]
    · isplitl [HC0]; · iexact HC0
      iexact Hp0
    ihave H := (Entails.of_eq (bb_def (dA c l 0))) $$ H
    iexact H
  iintro %_ ⟨HO, HD0⟩
  ihave HD0 := (Entails.of_eq (bigSep_sep' (M := 𝕄) Finset.univ (fun j => bigSep Finset.univ fun h => dB c l 0 j h) (fun j => iprop(∃ f, planePts c j f)))) $$ HD0
  icases HD0 with ⟨HD0, Hpl⟩
  ihave HD0 := (Entails.of_eq (bb_def (dB c l 0)).symm) $$ HD0
  iapply (WP_bind c)
  iapply (WP_wand c _) $$ [HO HC2 Hp2]
  · iapply (agDones_spec D K c l (24 * l.val + 24)) $$ [HO HC2 Hp2]
    isplitr; · iexact HR
    isplitl [HO]; · iexact HO
    ihave H := (done_all c l 2) $$ [HC2 Hp2]
    · isplitl [HC2]; · iexact HC2
      iexact Hp2
    ihave H := (Entails.of_eq (bb_swap (dA c l 2))) $$ H
    iexact H
  iintro %_ ⟨HO, HD2⟩
  ihave HD2 := (Entails.of_eq (bigSep_sep' (M := 𝕄) Finset.univ (fun h => bigSep Finset.univ fun j => dB c l 2 j h) (fun h => iprop(∃ f, mPts c h fullShare f)))) $$ HD2
  icases HD2 with ⟨HD2, Hm⟩
  ihave HD2 := (Entails.of_eq (bb_swap (dB c l 2)).symm) $$ HD2
  iapply (WP_pure c)
  isplitr; · ipureintro; rfl
  isplitl [HO]; · iexact HO
  isplitl [HK HcB HD0 HD2 Hpl Hm]
  · isplitl [HK HcB HD0 HD2]
    · iapply (close_all c l)
      isplitl [HK]; · iexact HK
      isplitl [HcB]; · iexact HcB
      isplitl [HD0]; · iexact HD0
      iexact HD2
    isplitl [Hpl]; · iexact Hpl
    iexact Hm
  unfold wEnd
  isplitl [HwI Hwi HaI]
  · isplitl [HwI]; · iexact HwI
    isplitl [Hwi]; · iexists _; iexact Hwi
    iexact HaI
  isplitl [HwO]; · iexact HwO
  isplitl [Hwo]; · iexists _; iexact Hwo
  iexact HaO

end Cert.KernelIdeal.Mlp
-- ==== Proof.Start.lean ====
/-
  The start: the first weights on their way, and the barrier that hands every device its peers' slots.
-/
module

public import proofs.«01_k».proof.Proof.Layer

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Facts₀ Cert.KernelIdeal.Facts

variable {F : FTy → Type} [FloatOps F]

local notation "𝕄" => MT nD τ sig ℕ (Elt F) ℕ UU ℕ

variable (D : Inp F) (K : Dev nD × Ki → ℕ) (c : Dev nD)

/-! ## Fetching the weights -/

theorem wi_pay (s : Fin 2) (r : ℕ) (f : S2x1024x2048.Idx → Elt F .f32) (w : S1024x2048.Idx → Elt F .f32) (A : sProp 𝕄) (hw : w = D.wi (lay s r) c) (hA : A = argI D c (lay s r)) :
    iprop(((wiView s).view.loc (tc c) ↦[(wiView s).view.set]{fullShare} ((wiView s).view.write (Elt F) f w Finset.univ)) ∗ A)
    ⊢ (Rd D).payload (tc c, .dma (wSem s 0)) r 0 := by
  have hp : (Rd D).payload (tc c, .dma (wSem s 0)) r 0 = iprop(wiPts c s (B3 (D.wi (lay s r) c)) ∗ argI D c (lay s r)) := by
    refine (payload_cell D c (kW s 0) r 0).trans ?_
    show wPay D c s 0 r = _
    unfold wPay; exact if_pos rfl
  rw [hp, hA, ← hw]
  unfold wiPts
  rw [pointsTo_congr (fun i hi => copy_wi s w f i hi)]
theorem wo_pay (s : Fin 2) (r : ℕ) (f : S2x2048x1024.Idx → Elt F .f32) (w : S2048x1024.Idx → Elt F .f32) (A : sProp 𝕄) (hw : w = D.wo (lay s r) c) (hA : A = argO D c (lay s r)) :
    iprop(((woView s).view.loc (tc c) ↦[(woView s).view.set]{fullShare} ((woView s).view.write (Elt F) f w Finset.univ)) ∗ A)
    ⊢ (Rd D).payload (tc c, .dma (wSem s 1)) r 0 := by
  have hp : (Rd D).payload (tc c, .dma (wSem s 1)) r 0 = iprop(woPts c s (B3 (D.wo (lay s r) c)) ∗ argO D c (lay s r)) := by
    refine (payload_cell D c (kW s 1) r 0).trans ?_
    show wPay D c s 1 r = _
    unfold wPay; exact if_neg (by decide)
  rw [hp, hA, ← hw]
  unfold woPts
  rw [pointsTo_congr (fun i hi => copy_wo s w f i hi)]

theorem duty_w (s b : Fin 2) (r : ℕ) (hr : r < (if s = 0 then 2 else 1)) : (0 : Fin 3) ∈ (Rd D).duties (cell c (kW s b)) r := by
  rw [duties_cell, show dutK (kW s b) r = {0} from if_pos hr]; exact Finset.mem_singleton_self _

theorem amount_wi (s : Fin 2) (q : DmaSem sig) : (wiView s).view.amount (.dma q) = NW 0 := credit_wi s
theorem amount_wo (s : Fin 2) (q : DmaSem sig) : (woView s).view.amount (.dma q) = NW 1 := credit_wo s
theorem amount_kw (s b : Fin 2) (r : ℕ) (d : Fin 3) : (Rd D).amount (tc c, .dma (wSem s b)) r d = NW b := (amount_cell D c (kW s b) r d).trans (amt_w s b)
theorem duty_kw (s b : Fin 2) (r : ℕ) (hr : r < (if s = 0 then 2 else 1)) : (0 : Fin 3) ∈ (Rd D).duties (tc c, .dma (wSem s b)) r := duty_w D c s b r hr

/-- A local copy paying a duty of its own cell. -/
theorem fetch_rule {sh : Shape} {e : EltTy} (M : Memref sig .tc .hbm sh e) (V : Memref sig .tc .vmem sh e) (q : DmaSem sig) (hM) (hV) (hT) (κ : ℕ) (r : ℕ) (n : ℕ)
    (fs : Buf (Elt F) (M.view.loc (tc c))) (fd : Buf (Elt F) (V.view.loc (tc c)))
    (hd : (0 : Fin 3) ∈ (Rd D).duties (tc c, .dma q) r) (hN : V.view.amount (.dma q) = n) (hk : (Rd D).amount (tc c, .dma q) r 0 = n)
    (hpay : iprop((V.view.loc (tc c) ↦[V.view.set]{fullShare} (V.view.write (Elt F) fd (M.view.read (Elt F) fs) Finset.univ)) ∗ (M.view.loc (tc c) ↦[M.view.set]{fullShare} fs))
      ⊢ (Rd D).payload (tc c, .dma q) r 0) :
    iprop(cellInv ER (Rd D) κ (tc c, .dma q) ∗ (M.view.loc (tc c) ↦[M.view.set]{fullShare} fs) ∗ (V.view.loc (tc c) ↦[V.view.set]{fullShare} fd)
      ∗ dutyTok ER (tc c, .dma q) r 0 ∗ reached ER (tc c, .dma q) r)
    ⊢ WP c (Prog.lift (.enqueueDma M (.here V) (.dma q) hM hV hT) : P F PUnit) (fun _ => cred (tallyAt (tc c, .dma q) 0 n)) := by
  unfold Prog.lift
  iintro ⟨#HI, Ha, Hw, Ht, Hr⟩
  iapply (Rounds.wp_copy_pointsTo 𝒱₀ ER (Rd D) (tc c) none (κ := κ) hd 0 n hN hk hpay) $$ [Ha Hw Ht Hr]
  · isplitr; · iexact HI
    isplitl [Ha]; · iexact Ha
    isplitl [Hw]; · iexact Hw
    isplitl [Ht]; · iexact Ht
    iexact Hr
  iintro Hc
  iapply (WP_pure c)
  iexact Hc

/-- What a weight fetch takes. -/
def fetI (s : Fin 2) (r l : ℕ) : sProp 𝕄 := iprop(argI D c l ∗ (∃ f, wiPts c s f) ∗ dutyTok ER (cell c (kW s 0)) r 0 ∗ reached ER (cell c (kW s 0)) r)
def fetO (s : Fin 2) (r l : ℕ) : sProp 𝕄 := iprop(argO D c l ∗ (∃ f, woPts c s f) ∗ dutyTok ER (cell c (kW s 1)) r 0 ∗ reached ER (cell c (kW s 1)) r)

theorem winStart_spec (s : Fin 2) (r l : ℕ) (hr : r < (if s = 0 then 2 else 1)) (hl : lay s r = l) (M : Memref sig .tc .hbm S1024x2048 .f32) (hM) (fs : Buf (Elt F) (M.view.loc (tc c)))
    (hread : M.view.read (Elt F) fs = D.wi l c) (hA : (M.view.loc (tc c) ↦[M.view.set]{fullShare} fs : sProp 𝕄) = argI D c l) :
    iprop(recs D K ∗ fetI D c s r l) ⊢ WP c (winStart M hM s) (fun _ => cred (tallyAt (cell c (kW s 0)) 0 (NW 0))) := by
  subst hl
  unfold fetI
  iintro ⟨#HR, Ha, ⟨%f, Hw⟩, Ht, Hr⟩
  ihave #HI := (recs_inv D K c (kW s 0)) $$ HR
  ihave Ha := (Entails.of_eq hA.symm) $$ Ha
  unfold wiPts winStart
  have hpay : iprop(((wiView s).view.loc (tc c) ↦[(wiView s).view.set]{fullShare} ((wiView s).view.write (Elt F) f (M.view.read (Elt F) fs) Finset.univ)) ∗ (M.view.loc (tc c) ↦[M.view.set]{fullShare} fs))
      ⊢ (Rd D).payload (tc c, .dma (wSem s 0)) r 0 := wi_pay D c s r f (M.view.read (Elt F) fs) (M.view.loc (tc c) ↦[M.view.set]{fullShare} fs) hread hA
  have h1 := fetch_rule D c M (wiView s) (wSem s 0) hM ((View.wordExact_bits rfl).reshape _ _) ⟨Or.inl rfl, trivial⟩ (K (c, kW s 0)) r (NW 0) fs f
    (duty_kw D c s 0 r hr) (amount_wi s _) (amount_kw D c s 0 r 0) hpay
  iapply h1
  isplitr; · iexact HI
  isplitl [Ha]; · iexact Ha
  isplitl [Hw]; · iexact Hw
  isplitl [Ht]; · iexact Ht
  iexact Hr

theorem woutStart_spec (s : Fin 2) (r l : ℕ) (hr : r < (if s = 0 then 2 else 1)) (hl : lay s r = l) (M : Memref sig .tc .hbm S2048x1024 .f32) (hM) (fs : Buf (Elt F) (M.view.loc (tc c)))
    (hread : M.view.read (Elt F) fs = D.wo l c) (hA : (M.view.loc (tc c) ↦[M.view.set]{fullShare} fs : sProp 𝕄) = argO D c l) :
    iprop(recs D K ∗ fetO D c s r l) ⊢ WP c (woutStart M hM s) (fun _ => cred (tallyAt (cell c (kW s 1)) 0 (NW 1))) := by
  subst hl
  unfold fetO
  iintro ⟨#HR, Ha, ⟨%f, Hw⟩, Ht, Hr⟩
  ihave #HI := (recs_inv D K c (kW s 1)) $$ HR
  ihave Ha := (Entails.of_eq hA.symm) $$ Ha
  unfold woPts woutStart
  have hpay : iprop(((woView s).view.loc (tc c) ↦[(woView s).view.set]{fullShare} ((woView s).view.write (Elt F) f (M.view.read (Elt F) fs) Finset.univ)) ∗ (M.view.loc (tc c) ↦[M.view.set]{fullShare} fs))
      ⊢ (Rd D).payload (tc c, .dma (wSem s 1)) r 0 := wo_pay D c s r f (M.view.read (Elt F) fs) (M.view.loc (tc c) ↦[M.view.set]{fullShare} fs) hread hA
  have h1 := fetch_rule D c M (woView s) (wSem s 1) hM ((View.wordExact_bits rfl).reshape _ _) ⟨Or.inl rfl, trivial⟩ (K (c, kW s 1)) r (NW 1) fs f
    (duty_kw D c s 1 r hr) (amount_wo s _) (amount_kw D c s 1 r 0) hpay
  iapply h1
  isplitr; · iexact HI
  isplitl [Ha]; · iexact Ha
  isplitl [Hw]; · iexact Hw
  isplitl [Ht]; · iexact Ht
  iexact Hr

theorem arg1_eq : ((Memref.whole main_arg1).view.loc (tc c) ↦[(Memref.whole main_arg1).view.set]{fullShare} D.wi 0 c : sProp 𝕄) = argI D c 0 := by
  rw [show (Memref.whole main_arg1).view.set = Finset.univ from View.set_whole main_arg1]; rfl
theorem arg2_eq : ((Memref.whole main_arg2).view.loc (tc c) ↦[(Memref.whole main_arg2).view.set]{fullShare} D.wi 1 c : sProp 𝕄) = argI D c 1 := by
  rw [show (Memref.whole main_arg2).view.set = Finset.univ from View.set_whole main_arg2]; rfl
theorem arg3_eq : ((Memref.whole main_arg3).view.loc (tc c) ↦[(Memref.whole main_arg3).view.set]{fullShare} D.wi 2 c : sProp 𝕄) = argI D c 2 := by
  rw [show (Memref.whole main_arg3).view.set = Finset.univ from View.set_whole main_arg3]; rfl
theorem arg4_eq : ((Memref.whole main_arg4).view.loc (tc c) ↦[(Memref.whole main_arg4).view.set]{fullShare} D.wo 0 c : sProp 𝕄) = argO D c 0 := by
  rw [show (Memref.whole main_arg4).view.set = Finset.univ from View.set_whole main_arg4]; rfl
theorem arg5_eq : ((Memref.whole main_arg5).view.loc (tc c) ↦[(Memref.whole main_arg5).view.set]{fullShare} D.wo 1 c : sProp 𝕄) = argO D c 1 := by
  rw [show (Memref.whole main_arg5).view.set = Finset.univ from View.set_whole main_arg5]; rfl
theorem arg6_eq : ((Memref.whole main_arg6).view.loc (tc c) ↦[(Memref.whole main_arg6).view.set]{fullShare} D.wo 2 c : sProp 𝕄) = argO D c 2 := by
  rw [show (Memref.whole main_arg6).view.set = Finset.univ from View.set_whole main_arg6]; rfl

/-! ## The barrier -/

/-- What one signal takes: the peer's duty, and the slot the peer writes first. -/
def bA (i : Fin 3) : sProp 𝕄 := iprop(dutyTok ER (cell (peerD c i) kB) 0 i.rev ∗ bigSep Finset.univ fun h => iprop(∃ f, rsPts c i h f))

theorem frees (D : Inp F) (K : Dev nD × Ki → ℕ) (i : Fin 3) :
    iprop(recs D K ∗ bigSep Finset.univ fun h => iprop(∃ f, rsPts c i h f)) ⊢ bigSep Finset.univ fun h => rsFree c i h 0 := by
  refine bigSep_with_persistent fun h _ => ?_
  unfold rsFree
  iintro ⟨#HR, H⟩
  isplitl [H]; · iexact H
  iapply (recs_reached D K c (kX 1 i h)); iexact HR

theorem bar_pay (i : Fin 3) : (Rd D).payload (tc (peerD c i), .reg barrier0) 0 i.rev = bigSep Finset.univ fun h : Fin 4 => rsFree c i h 0 := by
  refine (payload_cell D (peerD c i) kB 0 i.rev).trans ?_
  show (bigSep Finset.univ fun h : Fin 4 => rsFree (peerD (peerD c i) i.rev) i.rev.rev h 0) = _
  rw [peer_peer, Fin.rev_rev]

theorem signal_spec (i : Fin 3) (x : PUnit) :
    iprop(recs D K ∗ owesB c i.val ∗ bA c i) ⊢ WP c (semSignalWord (peerD c i) barrier0 1#32 : P F PUnit) (fun _ => iprop(⌜x = x⌝ ∗ owesB c (i.val + 1) ∗ emp)) := by
  unfold owesB bA semSignalWord
  iintro ⟨#HR, ⟨%W, HO⟩, Ht, Hs⟩
  ihave #HI := (recs_inv D K (peerD c i) kB) $$ HR
  ihave #Hre := (recs_reached D K (peerD c i) kB) $$ HR
  ihave Hs := (frees c D K i) $$ [Hs]
  · isplitr; · iexact HR
    iexact Hs
  iapply (Rounds.wp_signal 𝒱₀ ER (Rd D) (tc c) none (dst := tc (peerD c i)) (κ := K (peerD c i, kB)) (r := 0) (d := i.rev)
      (by rw [show ((tc (peerD c i), SemLoc.reg barrier0) : GSem nD τ sig) = cell (peerD c i) kB from rfl, duties_cell]; exact Finset.mem_univ _)
      ((amount_cell D (peerD c i) kB 0 i.rev).trans (by decide)) 0 (OB c (i.val + 1)) (OB_step c i)) $$ [HO Ht Hs]
  · isplitr; · iexact HI
    isplitl [HO]; · iexact HO
    isplitl [Ht]; · iexact Ht
    isplitl [Hs]
    · iapply (Entails.of_eq (bar_pay D c i).symm); iexact Hs
    iexact Hre
  iintro HO
  iapply (WP_pure c)
  isplitr; · ipureintro; rfl
  isplitl [HO]; · iexists W; iexact HO
  iempintro

theorem barrier_spec :
    iprop(recs D K ∗ owesB c 0 ∗ cred (tallyAt (cell c kB) 0 3) ∗ atPos ER (cell c kB) 0 ∅ 0 ∗ bigSep Finset.univ (bA c))
    ⊢ WP c (barrier c : P F PUnit) (fun _ => iprop(owesX c 0 ∗ atPos ER (cell c kB) 1 ∅ 0 ∗ bigSep Finset.univ fun k => bigSep Finset.univ fun h : Fin 4 => rsFree (peerD c k) k.rev h 0)) := by
  unfold barrier
  iintro ⟨#HR, HO, Hc, Hat, HA⟩
  iapply (WP_bind c)
  iapply (WP_wand c _) $$ [HO HA]
  · iapply (wp_loop c (recs D K) 3 (fun i _ => semSignalWord (peerD c i) barrier0 1#32) (fun _ _ => ⟨⟩) (owesB c) (bA c) (fun _ => iprop(emp)) (fun i x => signal_spec D K c i x) ⟨⟩) $$ [HO HA]
    isplitr; · iexact HR
    isplitl [HO]; · iexact HO
    iexact HA
  iintro %_ ⟨-, HO, -⟩
  ihave #HI := (recs_inv D K c kB) $$ HR
  ihave #HL := (recs_lev D K) $$ HR
  unfold owesB owesX semWaitWord
  icases HO with ⟨%W, HO⟩
  iapply (Rounds.wp_wait_rest_token 𝒱₀ ER (Rd D) (tc c) none (κ := K (c, kB)) (sm := .reg barrier0)
      (wpE_semWait_eq 𝒱₀ (tc c) none Set.univ) (Set.mem_univ _) 0 (O := OB c 3) (W := W) (R := 0) (m := 0) (T := ∅)
      ((show 0 + _ = 3 by decide).trans (expect_bar D c).symm)) $$ [Hc HO Hat]
  · isplitr; · iexact HI
    isplitl [Hc]; · iexact Hc
    isplitl [HO]; · iexact HO
    isplitr
    · rw [OB_end]
      iapply (mayWait c (.reg barrier0) 0 (by omega) 0 (by rw [show ((tc c, SemLoc.reg barrier0) : GSem nD τ sig) = cell c kB from rfl, lv_cell]; decide)); iexact HL
    iexact Hat
  iintro ⟨HO, Hat, -, Hpay⟩
  ihave Hp := (Entails.of_eq (show bigSep ((Rd D).duties (tc c, SemLoc.reg barrier0) 0 \ ∅) (fun d => (Rd D).payload (tc c, SemLoc.reg barrier0) 0 d) = _ from rest_bar D c)) $$ Hpay
  iapply (WP_pure c)
  isplitl [HO]
  · iexists _
    iapply (Entails.of_eq (congrArg (fun o => owes (tc c) o _) (OB_end c))); iexact HO
  isplitl [Hat]; · iexact Hat
  iexact Hp

end Cert.KernelIdeal.Mlp
-- ==== Proof.Ends.lean ====
/-
  The two ends of the body: what a device starts from, and what it gives back.
-/
module

public import proofs.«01_k».proof.Proof.Start

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Facts₀ Cert.KernelIdeal.Facts

variable {F : FTy → Type} [FloatOps F]

local notation "𝕄" => MT nD τ sig ℕ (Elt F) ℕ UU ℕ

variable (D : Inp F) (K : Dev nD × Ki → ℕ) (c : Dev nD)

/-! ## All cells of a device -/

theorem bigSep_fin2 (Φ : Fin 2 → sProp 𝕄) : bigSep Finset.univ Φ = iprop(Φ 0 ∗ Φ 1) := bigSep_univ_eq_bigSepL [0, 1] (by decide) (by decide) Φ
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_option {α : Type} [Fintype α] (Φ : Option α → sProp 𝕄) : bigSep Finset.univ Φ = iprop(Φ none ∗ bigSep Finset.univ fun a => Φ (some a)) := by
  classical
  rw [show (Finset.univ : Finset (Option α)) = insert none (Finset.univ.map Function.Embedding.some) from by ext x; cases x <;> simp, bigSep_insert (by simp), bigSep_map]
  rfl

/-- One thing for each cell, by kinds. -/
theorem cells_split (Φ : Ki → sProp 𝕄) : bigSep Finset.univ Φ
    = iprop(Φ kB ∗ ((Φ (kW 0 0) ∗ Φ (kW 0 1)) ∗ (Φ (kW 1 0) ∗ Φ (kW 1 1))) ∗ bb (fun j h => Φ (kX 0 j h)) ∗ bb (fun j h => Φ (kX 1 j h)) ∗ bb (fun j h => Φ (kX 2 j h)) ∗ bb (fun j h => Φ (kX 3 j h))) := by
  rw [bigSep_option, bigSep_univ_sum, bigSep_univ_prod, bigSep_univ_prod, bigSep_fin2, bigSep_fin4, bigSep_fin2, bigSep_fin2]
  simp only [bigSep_univ_prod]
  rfl

theorem close_cell (k : Ki) : iprop(recs D K ∗ atPos ER (cell c k) (roundsK k) ∅ 0) ⊢ |={Set.univ}=> (semVal (cell c k) 0 : sProp 𝕄) := by
  iintro ⟨#HR, Hat⟩
  ihave #HI := (recs_inv D K c k) $$ HR
  iapply (Rounds.cell_close ER (Rd D) (Set.mem_univ (K (c, k))) (fun h => h) (R := roundsK k) (fun r hr => by rw [duties_cell]; exact dutK_after k r hr))
  isplitr; · iexact HI
  iexact Hat
theorem close_cells : iprop(recs D K ∗ bigSep Finset.univ fun k => atPos ER (cell c k) (roundsK k) ∅ 0) ⊢ |={Set.univ}=> bigSep Finset.univ fun k => (semVal (cell c k) 0 : sProp 𝕄) :=
  (bigSep_with_persistent fun k _ => close_cell D K c k).trans (bigSep_fupd _ _)

/-! ## The states at the two ends -/

theorem start_state :
    iprop(recs D K ∗ bb (fun k h => rsFree (peerD c k) k.rev h 0) ∗ bb (fun j h => iprop(∃ f, agPts c j h f)) ∗ bb (fun j h => atPos ER (cell c (kX 0 j h)) 0 ∅ 0)
      ∗ bb (fun j h => atPos ER (cell c (kX 1 j h)) 0 ∅ 0) ∗ bb (fun j h => atPos ER (cell c (kX 2 j h)) 0 ∅ 0) ∗ bb (fun j h => atPos ER (cell c (kX 3 j h)) 0 ∅ 0))
    ⊢ bb (St c 0) := by
  rw [← bb_sep, ← bb_sep, ← bb_sep, ← bb_sep, ← bb_sep]
  refine bigSep_with_persistent fun j _ => bigSep_with_persistent fun h _ => ?_
  unfold St RsTok
  rw [if_pos (by omega)]
  iintro ⟨#HR, Hs, Ha, H0, H1, H2, H3⟩
  isplitl [Hs]; · iexact Hs
  isplitl [Ha]; · iexact Ha
  isplitl [H0]
  · isplitl [H0]; · iexact H0
    iapply (recs_reached D K c (kX 0 j h)); iexact HR
  isplitl [H1]; · iexact H1
  isplitl [H2]
  · isplitl [H2]; · iexact H2
    iapply (recs_reached D K c (kX 2 j h)); iexact HR
  isplitl [H3]; · iexact H3
  iapply (recs_reached D K c (kX 3 j h)); iexact HR

theorem end_state : bb (St c 3) ⊢ (iprop(bb (fun j h => iprop(∃ f, rsPts c j h f)) ∗ bb (fun j h => iprop(∃ f, agPts c j h f)) ∗ bb (fun j h => atPos ER (cell c (kX 0 j h)) 3 ∅ 0)
      ∗ bb (fun j h => atPos ER (cell c (kX 1 j h)) 3 ∅ 0) ∗ bb (fun j h => atPos ER (cell c (kX 2 j h)) 3 ∅ 0) ∗ bb (fun j h => atPos ER (cell c (kX 3 j h)) 3 ∅ 0)) : sProp 𝕄) := by
  rw [← bb_sep, ← bb_sep, ← bb_sep, ← bb_sep, ← bb_sep]
  refine bb_mono fun j h => ?_
  unfold St RsTok
  rw [if_neg (by omega)]
  iintro ⟨Hs, Ha, ⟨H0, -⟩, H1, ⟨H2, -⟩, H3, -⟩
  isplitl [Hs]; · iexact Hs
  isplitl [Ha]; · iexact Ha
  isplitl [H0]; · iexact H0
  isplitl [H1]; · iexact H1
  isplitl [H2]; · iexact H2
  iexact H3

/-- The scratch regions the body uses, at any contents. -/
def scr : sProp 𝕄 :=
  iprop((∃ f, wiPts c 0 f) ∗ (∃ f, wiPts c 1 f) ∗ (∃ f, woPts c 0 f) ∗ (∃ f, woPts c 1 f) ∗ bb (fun j h => iprop(∃ f, rsPts c j h f)) ∗ bb (fun j h => iprop(∃ f, agPts c j h f))
    ∗ (bigSep Finset.univ fun j => iprop(∃ f, planePts c j f)) ∗ bigSep Finset.univ fun h => iprop(∃ f, mPts c h fullShare f))
/-- The weights where they came from. -/
def wargs : sProp 𝕄 := iprop(argI D c 0 ∗ argI D c 1 ∗ argI D c 2 ∗ argO D c 0 ∗ argO D c 1 ∗ argO D c 2)
/-- The duties of the weight fetches. -/
def wToks : sProp 𝕄 :=
  iprop(dutyTok ER (cell c (kW 0 0)) 0 0 ∗ dutyTok ER (cell c (kW 0 0)) 1 0 ∗ dutyTok ER (cell c (kW 0 1)) 0 0 ∗ dutyTok ER (cell c (kW 0 1)) 1 0 ∗ dutyTok ER (cell c (kW 1 0)) 0 0 ∗ dutyTok ER (cell c (kW 1 1)) 0 0)

/-- What the body starts from, besides the staged blocks. -/
def bodyPre : sProp 𝕄 :=
  iprop(recs D K ∗ cred (tallyAt (cell c kB) 0 3) ∗ (bigSep Finset.univ fun k => atPos ER (cell c k) 0 ∅ 0) ∗ (bigSep Finset.univ fun i : Fin 3 => dutyTok ER (cell (peerD c i) kB) 0 i.rev)
    ∗ wToks c ∗ (bb (Tok c 0) ∗ bb (Tok c 1) ∗ bb (Tok c 2)) ∗ wargs D c ∗ scr c)

/-- The first weights on their way, and the barrier. -/
theorem start_spec :
    iprop(recs D K ∗ owesB c 0 ∗ (fetI D c 0 0 0 ∗ fetO D c 0 0 0 ∗ fetI D c 1 0 1 ∗ fetO D c 1 0 1) ∗ cred (tallyAt (cell c kB) 0 3) ∗ atPos ER (cell c kB) 0 ∅ 0 ∗ bigSep Finset.univ (bA c))
    ⊢ WP c (start c) (fun _ => iprop((owesX c 0 ∗ atPos ER (cell c kB) 1 ∅ 0 ∗ bigSep Finset.univ fun k => bigSep Finset.univ fun h : Fin 4 => rsFree (peerD c k) k.rev h 0)
      ∗ cred (tallyAt (cell c (kW 0 0)) 0 (NW 0)) ∗ cred (tallyAt (cell c (kW 0 1)) 0 (NW 1)) ∗ cred (tallyAt (cell c (kW 1 0)) 0 (NW 0)) ∗ cred (tallyAt (cell c (kW 1 1)) 0 (NW 1)))) := by
  unfold start
  iintro ⟨#HR, HO, ⟨HF1, HF4, HF2, HF5⟩, Hc, Hat, HA⟩
  iapply (WP_bind c)
  iapply (WP_wand c _) $$ [HF1]
  · iapply (winStart_spec D K c 0 0 0 (by decide) rfl (Memref.whole main_arg1) _ (D.wi 0 c) rfl (arg1_eq D c)) $$ [HF1]
    isplitr; · iexact HR
    iexact HF1
  iintro %_ HC1
  iapply (WP_bind c)
  iapply (WP_wand c _) $$ [HF4]
  · iapply (woutStart_spec D K c 0 0 0 (by decide) rfl (Memref.whole main_arg4) _ (D.wo 0 c) rfl (arg4_eq D c)) $$ [HF4]
    isplitr; · iexact HR
    iexact HF4
  iintro %_ HC4
  iapply (WP_bind c)
  iapply (WP_wand c _) $$ [HF2]
  · iapply (winStart_spec D K c 1 0 1 (by decide) rfl (Memref.whole main_arg2) _ (D.wi 1 c) rfl (arg2_eq D c)) $$ [HF2]
    isplitr; · iexact HR
    iexact HF2
  iintro %_ HC2
  iapply (WP_bind c)
  iapply (WP_wand c _) $$ [HF5]
  · iapply (woutStart_spec D K c 1 0 1 (by decide) rfl (Memref.whole main_arg5) _ (D.wo 1 c) rfl (arg5_eq D c)) $$ [HF5]
    isplitr; · iexact HR
    iexact HF5
  iintro %_ HC5
  iapply (WP_wand c _) $$ [HO Hc Hat HA]
  · iapply (barrier_spec D K c) $$ [HO Hc Hat HA]
    isplitr; · iexact HR
    isplitl [HO]; · iexact HO
    isplitl [Hc]; · iexact Hc
    isplitl [Hat]; · iexact Hat
    iexact HA
  iintro %_ H
  isplitl [H]; · iexact H
  isplitl [HC1]; · iexact HC1
  isplitl [HC4]; · iexact HC4
  isplitl [HC2]; · iexact HC2
  iexact HC5

/-- The third layer's weights on their way. -/
theorem startLast_spec :
    iprop(recs D K ∗ fetI D c 0 1 2 ∗ fetO D c 0 1 2)
    ⊢ WP c startLast (fun _ => iprop(cred (tallyAt (cell c (kW 0 0)) 0 (NW 0)) ∗ cred (tallyAt (cell c (kW 0 1)) 0 (NW 1)))) := by
  unfold startLast
  iintro ⟨#HR, HF3, HF6⟩
  iapply (WP_bind c)
  iapply (WP_wand c _) $$ [HF3]
  · iapply (winStart_spec D K c 0 1 2 (by decide) rfl (Memref.whole main_arg3) _ (D.wi 2 c) rfl (arg3_eq D c)) $$ [HF3]
    isplitr; · iexact HR
    iexact HF3
  iintro %_ HC3
  iapply (WP_wand c _) $$ [HF6]
  · iapply (woutStart_spec D K c 0 1 2 (by decide) rfl (Memref.whole main_arg6) _ (D.wo 2 c) rfl (arg6_eq D c)) $$ [HF6]
    isplitr; · iexact HR
    iexact HF6
  iintro %_ HC6
  isplitl [HC3]; · iexact HC3
  iexact HC6

/-- The staged blocks. -/
def sIn (f : S64x1024.Idx → Elt F .f32) : sProp 𝕄 := (tc c).loc cc0_stg0_0 ↦{fullShare} f
def sOut (f : S64x1024.Idx → Elt F .f32) : sProp 𝕄 := (tc c).loc cc0_stg1_0 ↦{fullShare} f

theorem in_load (f : S64x1024.Idx → Elt F .f32) (hl) :
    sIn c f ⊢ WP c (Prog.lift (.load (Memref.whole cc0_stg0_0) (Rect.unit (s := S64x1024) ![0, 0] S64x1024.size inb_S64x1024_S64x1024_0_0).toLoadRect hl) : P F (S64x1024.Idx → Elt F .f32))
      (fun v => iprop(⌜v = f⌝ ∗ sIn c f)) := by
  have e := Memref.readAt_unit_zero (Elt F) cc0_stg0_0 (off := ![0, 0]) (by decide) inb_S64x1024_S64x1024_0_0 f
  unfold sIn
  iintro H
  iapply (WP_wand c _) $$ [H]
  · iapply (load_spec c (F := F) (Memref.whole cc0_stg0_0) (Rect.unit (s := S64x1024) ![0, 0] S64x1024.size inb_S64x1024_S64x1024_0_0).toLoadRect hl (q := fullShare) (f := f) (Finset.subset_univ _))
    iexact H
  iintro %v ⟨%hv, H⟩
  isplitr; · ipureintro; exact hv.trans e
  iexact H
theorem out_load (f : S64x1024.Idx → Elt F .f32) (hl) :
    sOut c f ⊢ WP c (Prog.lift (.load (Memref.whole cc0_stg1_0) (Rect.unit (s := S64x1024) ![0, 0] S64x1024.size inb_S64x1024_S64x1024_0_0).toLoadRect hl) : P F (S64x1024.Idx → Elt F .f32))
      (fun _ => sOut c f) :=
  load_any c (F := F) (Memref.whole cc0_stg1_0) (Rect.unit (s := S64x1024) ![0, 0] S64x1024.size inb_S64x1024_S64x1024_0_0).toLoadRect hl (q := fullShare) (f := f) (Finset.subset_univ _)
theorem out_store (f u : S64x1024.Idx → Elt F .f32) (hx) (hm) :
    sOut c f ⊢ WP c (Prog.lift (.store (Memref.whole cc0_stg1_0) (Rect.unit (s := S64x1024) ![0, 0] S64x1024.size inb_S64x1024_S64x1024_0_0) u Finset.univ hx hm) : P F PUnit)
      (fun _ => sOut c u) :=
  store_spec c (F := F) (Memref.whole cc0_stg1_0) (Rect.unit (s := S64x1024) ![0, 0] S64x1024.size inb_S64x1024_S64x1024_0_0) u hx hm (f := f) (g := u) (Finset.subset_univ _)
    (fun i _ => congrFun (Memref.write_access_unit_zero_univ (Elt F) cc0_stg1_0 (by decide) _ f u) i)

end Cert.KernelIdeal.Mlp
-- ==== Proof.BodyEq.lean ====
/-
  The printed body is the structured program.
-/
module

public import proofs.«01_k».proof.Proof.Body
public import Idealize.ShloMosaic.Lib.Pipeline.Regions

@[expose] public section

noncomputable section

namespace Cert.KernelIdeal.Mlp

open Idealize.ShloMosaic Idealize.ShloMosaic.TcCoe
open Idealize.SL Idealize.SL.Sem
open Cert.KernelIdeal.Facts₀ Cert.KernelIdeal.Facts

variable {F : FTy → Type} [FloatOps F] [Facts]

set_option maxRecDepth 100000 in
/-- The printed body, on the buffers the pipeline calls it with, is the structured program. -/
theorem body_eq : cc0_body (F := F) (Memref.whole cc0_stg0_0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _)
    (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10
    = (Prog.lift .deviceId >>= fun d => body d) := by
  chain_rfl

end Cert.KernelIdeal.Mlp
-- ==== Proof.Run.lean ====
/-
  The whole body on one device.
-/
module

public import proofs.«01_k».proof.Proof.Ends
public import proofs.«01_k».proof.Proof.BodyEq

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Facts₀ Cert.KernelIdeal.Facts

variable {F : FTy → Type} [FloatOps F]

local notation "𝕄" => MT nD τ sig ℕ (Elt F) ℕ UU ℕ

variable (D : Inp F) (K : Dev nD × Ki → ℕ) (c : Dev nD)

theorem reached_here (k : Ki) : recs D K ⊢ iprop(recs D K ∗ reached ER (cell c k) 0) := by
  iintro #HR
  isplitr; · iexact HR
  iapply (recs_reached D K c k); iexact HR

/-- What the body ends with, besides the staged blocks. -/
def bodyEnd : sProp 𝕄 := iprop((bigSep Finset.univ fun k => semVal (cell c k) 0) ∗ wargs D c ∗ scr c)

/-- From the state after the last layer, all cells closed. -/
theorem end_spec :
    iprop(recs D K ∗ LS c 3 ∗ atPos ER (cell c kB) 1 ∅ 0 ∗ wEnd D c 0 1 2 ∗ wEnd D c 1 0 1 ∗ argI D c 0 ∗ argO D c 0) ⊢ |={Set.univ}=> bodyEnd D c := by
  unfold LS wEnd wB
  iintro ⟨#HR, ⟨HS, HP, HM⟩, HaB, ⟨⟨⟨HW0, -⟩, Hw0, HI2⟩, ⟨HW1, -⟩, Ho0, HO2⟩, ⟨⟨⟨HW2, -⟩, Hw1, HI1⟩, ⟨HW3, -⟩, Ho1, HO1⟩, HI0, HO0⟩
  ihave HS' := (end_state (F := F) c) $$ HS
  icases HS' with ⟨Hs, Ha, H0, H1, H2, H3⟩
  imod (close_cells D K c) $$ [HaB HW0 HW1 HW2 HW3 H0 H1 H2 H3] with HZ
  · isplitr; · iexact HR
    iapply (Entails.of_eq (cells_split (fun k => atPos ER (cell c k) (roundsK k) ∅ 0)).symm)
    isplitl [HaB]; · iexact HaB
    isplitl [HW0 HW1 HW2 HW3]
    · isplitl [HW0 HW1]
      · isplitl [HW0]; · iexact HW0
        iexact HW1
      isplitl [HW2]; · iexact HW2
      iexact HW3
    isplitl [H0]; · iexact H0
    isplitl [H1]; · iexact H1
    isplitl [H2]; · iexact H2
    iexact H3
  imodintro
  unfold bodyEnd wargs scr
  isplitl [HZ]; · iexact HZ
  isplitl [HI0 HI1 HI2 HO0 HO1 HO2]
  · isplitl [HI0]; · iexact HI0
    isplitl [HI1]; · iexact HI1
    isplitl [HI2]; · iexact HI2
    isplitl [HO0]; · iexact HO0
    isplitl [HO1]; · iexact HO1
    iexact HO2
  isplitl [Hw0]; · iexact Hw0
  isplitl [Hw1]; · iexact Hw1
  isplitl [Ho0]; · iexact Ho0
  isplitl [Ho1]; · iexact Ho1
  isplitl [Hs]; · iexact Hs
  isplitl [Ha]; · iexact Ha
  isplitl [HP]; · iexact HP
  iexact HM

theorem WP_pureF {α : Type} (c : Dev nD) (a : α) (Q : α → sProp 𝕄) : (|={Set.univ}=> Q a) ⊢ WP c (pure a : P F α) Q := Entails.of_eq (wp_pure _ _ _ a Q).symm

/-- After the last layer: the result stored, the cells closed. -/
theorem store_spec_out (u : Vec F S64x1024 .f32) (g : S64x1024.Idx → Elt F .f32) (h1) (h2) (h3) :
    iprop(recs D K ∗ LS c 3 ∗ atPos ER (cell c kB) 1 ∅ 0 ∗ wEnd D c 0 1 2 ∗ wEnd D c 1 0 1 ∗ argI D c 0 ∗ argO D c 0 ∗ sOut c g)
    ⊢ WP c (do
        let _ : Vec F S64x1024 .f32 ← Prog.lift (.load (Memref.whole cc0_stg1_0) (Rect.unit (s := S64x1024) ![0, 0] S64x1024.size inb_S64x1024_S64x1024_0_0).toLoadRect h1)
        Prog.lift (.store (Memref.whole cc0_stg1_0) (Rect.unit (s := S64x1024) ![0, 0] S64x1024.size inb_S64x1024_S64x1024_0_0) u Finset.univ h2 h3)
        pure ⟨⟩ : P F PUnit) (fun _ => iprop(bodyEnd D c ∗ sOut c u)) := by
  iintro ⟨#HR, HLS, HaB, HE0, HE1, HI0, HO0, Hg⟩
  iapply (WP_bind c)
  iapply (WP_wand c _) $$ [Hg]
  · iapply (out_load c g h1); iexact Hg
  iintro %_ Hg
  iapply (WP_bind c)
  iapply (WP_wand c _) $$ [Hg]
  · iapply (out_store c g u h2 h3); iexact Hg
  iintro %_ Hg
  iapply (WP_pureF c)
  imod (end_spec D K c) $$ [HLS HaB HE0 HE1 HI0 HO0] with HB
  · isplitr; · iexact HR
    isplitl [HLS]; · iexact HLS
    isplitl [HaB]; · iexact HaB
    isplitl [HE0]; · iexact HE0
    isplitl [HE1]; · iexact HE1
    isplitl [HI0]; · iexact HI0
    iexact HO0
  imodintro
  isplitl [HB]; · iexact HB
  iexact Hg

/-- The body of the kernel on device `c`. -/
theorem body_spec (f g : S64x1024.Idx → Elt F .f32) (hf : shapeCast S64x1024 f shapeCasts_S64x1024_S64x1024 = D.x0 c) :
    iprop(bodyPre D K c ∗ owesB c 0 ∗ sIn c f ∗ sOut c g) ⊢ WP c (body c) (fun _ => iprop(bodyEnd D c ∗ owesX c 72 ∗ sIn c f ∗ sOut c (XV D 3 c))) := by
  unfold body bodyPre wToks wargs scr
  iintro ⟨⟨#HR, Hcb, Hat, HtB, ⟨HT000, HT001, HT010, HT011, HT10, HT11⟩, ⟨Hk0, Hk1, Hk2⟩, ⟨HI0, HI1, HI2, HO0, HO1, HO2⟩, Hw0, Hw1, Ho0, Ho1, Hrs, Hag, HP, HM⟩, HO, Hf, Hg⟩
  ihave Hat' := (Entails.of_eq (cells_split (fun k => atPos ER (cell c k) 0 ∅ 0))) $$ Hat
  icases Hat' with ⟨HaB, ⟨⟨HA0, HA1⟩, HA2, HA3⟩, H0, H1, H2, H3⟩
  -- the start
  iapply (WP_bind c)
  iapply (WP_wand c _) $$ [HO Hcb HaB HtB Hrs HI0 HO0 HI1 HO1 Hw0 Hw1 Ho0 Ho1 HT000 HT010 HT10 HT11]
  · iapply (start_spec D K c)
    isplitr; · iexact HR
    isplitl [HO]; · iexact HO
    isplitl [HI0 HO0 HI1 HO1 Hw0 Hw1 Ho0 Ho1 HT000 HT010 HT10 HT11]
    · unfold fetI fetO
      isplitl [HI0 Hw0 HT000]
      · isplitl [HI0]; · iexact HI0
        isplitl [Hw0]; · iexact Hw0
        isplitl [HT000]; · iexact HT000
        iapply (recs_reached D K c (kW 0 0)); iexact HR
      isplitl [HO0 Ho0 HT010]
      · isplitl [HO0]; · iexact HO0
        isplitl [Ho0]; · iexact Ho0
        isplitl [HT010]; · iexact HT010
        iapply (recs_reached D K c (kW 0 1)); iexact HR
      isplitl [HI1 Hw1 HT10]
      · isplitl [HI1]; · iexact HI1
        isplitl [Hw1]; · iexact Hw1
        isplitl [HT10]; · iexact HT10
        iapply (recs_reached D K c (kW 1 0)); iexact HR
      isplitl [HO1]; · iexact HO1
      isplitl [Ho1]; · iexact Ho1
      isplitl [HT11]; · iexact HT11
      iapply (recs_reached D K c (kW 1 1)); iexact HR
    isplitl [Hcb]; · iexact Hcb
    isplitl [HaB]; · iexact HaB
    unfold bA bb
    iapply (Entails.of_eq (bigSep_sep' Finset.univ (fun i : Fin 3 => dutyTok ER (cell (peerD c i) kB) 0 i.rev) (fun i => bigSep Finset.univ fun h : Fin 4 => iprop(∃ f, rsPts c i h f))).symm)
    isplitl [HtB]; · iexact HtB
    iexact Hrs
  iintro %_ ⟨⟨HO, HaB, Hfree⟩, HC1, HC4, HC2, HC5⟩
  ihave HS := (start_state D K c) $$ [Hfree Hag H0 H1 H2 H3]
  · isplitr; · iexact HR
    isplitl [Hfree]; · iapply (Entails.of_eq (bb_def _).symm); iexact Hfree
    isplitl [Hag]; · iexact Hag
    isplitl [H0]; · iexact H0
    isplitl [H1]; · iexact H1
    isplitl [H2]; · iexact H2
    iexact H3
  -- the input
  iapply (WP_bind c)
  iapply (WP_wand c _) $$ [Hf]
  · iapply (in_load c f _); iexact Hf
  iintro %x ⟨%hx, Hf⟩
  subst hx
  rw [hf]
  -- the first layer
  iapply (WP_bind c)
  iapply (WP_wand c _) $$ [HO HS HP HM Hk0 HC1 HA0 HC4 HA1]
  · iapply (layer_spec D K c 0 0 0 (by decide) rfl (Memref.whole main_arg1) _ (Memref.whole main_arg4) _)
    isplitr; · iexact HR
    isplitl [HO]; · iexact HO
    isplitl [HS HP HM]
    · unfold LS
      isplitl [HS]; · iexact HS
      isplitl [HP]; · iexact HP
      iexact HM
    isplitl [Hk0]; · iexact Hk0
    unfold wA
    isplitl [HC1 HA0]
    · isplitl [HC1]; · iexact HC1
      iexact HA0
    isplitl [HC4]; · iexact HC4
    iexact HA1
  iintro %y ⟨%hy, HO, HLS, HE⟩
  subst hy
  unfold wEnd wB
  icases HE with ⟨⟨⟨HA0, #HW0⟩, Hw0, HI0⟩, ⟨HA1, #HW1⟩, Ho0, HO0⟩
  -- the third layer's weights
  iapply (WP_bind c)
  iapply (WP_wand c _) $$ [HI2 HO2 Hw0 Ho0 HT001 HT011]
  · iapply (startLast_spec D K c)
    isplitr; · iexact HR
    unfold fetI fetO
    isplitl [HI2 Hw0 HT001]
    · isplitl [HI2]; · iexact HI2
      isplitl [Hw0]; · iexact Hw0
      isplitl [HT001]; · iexact HT001
      iexact HW0
    isplitl [HO2]; · iexact HO2
    isplitl [Ho0]; · iexact Ho0
    isplitl [HT011]; · iexact HT011
    iexact HW1
  iintro %_ ⟨HC3, HC6⟩
  -- the second layer
  iapply (WP_bind c)
  iapply (WP_wand c _) $$ [HO HLS Hk1 HC2 HA2 HC5 HA3]
  · iapply (layer_spec D K c 1 1 0 (by decide) rfl (Memref.whole main_arg2) _ (Memref.whole main_arg5) _)
    isplitr; · iexact HR
    isplitl [HO]; · iexact HO
    isplitl [HLS]; · iexact HLS
    isplitl [Hk1]; · iexact Hk1
    unfold wA
    isplitl [HC2 HA2]
    · isplitl [HC2]; · iexact HC2
      iexact HA2
    isplitl [HC5]; · iexact HC5
    iexact HA3
  iintro %z ⟨%hz, HO, HLS, HE1⟩
  subst hz
  -- the third layer
  iapply (WP_bind c)
  iapply (WP_wand c _) $$ [HO HLS Hk2 HC3 HA0 HC6 HA1]
  · iapply (layer_spec D K c 2 0 1 (by decide) rfl (Memref.whole main_arg3) _ (Memref.whole main_arg6) _)
    isplitr; · iexact HR
    isplitl [HO]; · iexact HO
    isplitl [HLS]; · iexact HLS
    isplitl [Hk2]; · iexact Hk2
    unfold wA
    isplitl [HC3 HA0]
    · isplitl [HC3]; · iexact HC3
      iexact HA0
    isplitl [HC6]; · iexact HC6
    iexact HA1
  iintro %u ⟨%hu, HO, HLS, HE2⟩
  subst hu
  iapply (WP_wand c _) $$ [HLS HaB HE1 HE2 HI0 HO0 Hg]
  · iapply (store_spec_out D K c _ g _ _ _)
    isplitr; · iexact HR
    isplitl [HLS]; · iexact HLS
    isplitl [HaB]; · iexact HaB
    isplitl [HE2]; · iexact HE2
    isplitl [HE1]; · iexact HE1
    isplitl [HI0]; · iexact HI0
    isplitl [HO0]; · iexact HO0
    iexact Hg
  iintro %_ ⟨HB, Hg⟩
  isplitl [HB]; · iexact HB
  isplitl [HO]; · iexact HO
  isplitl [Hf]; · iexact Hf
  iexact Hg

end Cert.KernelIdeal.Mlp
-- ==== Proof.Ghost.lean ====
/-
  The ghost state at launch: cells, duties and credits, dealt to the devices that use them.
-/
module

public import proofs.«01_k».proof.Proof.Ends

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Facts₀ Cert.KernelIdeal.Facts

variable {F : FTy → Type} [FloatOps F]

local notation "𝕄" => MT nD τ sig ℕ (Elt F) ℕ UU ℕ

variable (D : Inp F) (K : Dev nD × Ki → ℕ) (c : Dev nD)

/-! ## The cells and the duties at launch -/

theorem cell_inj : Function.Injective (fun ck : Dev nD × Ki => cell ck.1 ck.2) := by
  rintro ⟨c, k⟩ ⟨c', k'⟩ h
  have h1 : c = c' := congrArg (fun g : GSem nD τ sig => g.1.1) h
  have h2 : csem k = csem k' := congrArg Prod.snd h
  rw [h1, csem_inj h2]
def meshCells : Finset (GSem nD τ sig) := Finset.univ.map ⟨_, cell_inj⟩

/-- The duties of a device's cells: the barrier's, the weight fetches', the exchanges' (layer, kind, peer or slot, column group). -/
abbrev Tk : Type := Fin 3 ⊕ (Fin 2 × Fin 3) ⊕ (Fin 3 × Fin 4 × Fin 3 × Fin 4)
def tkK : Tk → Ki × ℕ × Fin 3
  | .inl k => (kB, 0, k)
  | .inr (.inl (b, i)) => (kW ((![0, 0, 1] : Fin 3 → Fin 2) i) b, (![0, 1, 0] : Fin 3 → ℕ) i, 0)
  | .inr (.inr (l, t, j, h)) => (kX t j h, l.val, 0)
theorem tkK_inj : Function.Injective tkK := by
  intro x y hxy
  match x, y with
  | .inl k, .inl k' => exact congrArg Sum.inl (congrArg (fun z => z.2.2) hxy)
  | .inr (.inl (b, i)), .inr (.inl (b', i')) =>
    have h1 : (Sum.inl ((![0, 0, 1] : Fin 3 → Fin 2) i, b) : (Fin 2 × Fin 2) ⊕ (Fin 4 × Fin 3 × Fin 4)) = .inl ((![0, 0, 1] : Fin 3 → Fin 2) i', b') := Option.some.inj (congrArg (fun z => z.1) hxy)
    have h2 := Sum.inl.inj h1
    have h3 : (![0, 1, 0] : Fin 3 → ℕ) i = (![0, 1, 0] : Fin 3 → ℕ) i' := congrArg (fun z => z.2.1) hxy
    have key : ∀ i i' : Fin 3, (![0, 0, 1] : Fin 3 → Fin 2) i = (![0, 0, 1] : Fin 3 → Fin 2) i' → (![0, 1, 0] : Fin 3 → ℕ) i = (![0, 1, 0] : Fin 3 → ℕ) i' → i = i' := by decide
    have hi : i = i' := key i i' (congrArg Prod.fst h2) h3
    have hb : b = b' := congrArg Prod.snd h2
    subst hi; subst hb; rfl
  | .inr (.inr (l, t, j, h)), .inr (.inr (l', t', j', h')) =>
    have h1 : (Sum.inr (t, j, h) : (Fin 2 × Fin 2) ⊕ (Fin 4 × Fin 3 × Fin 4)) = .inr (t', j', h') := Option.some.inj (congrArg (fun z => z.1) hxy)
    have h2 : l = l' := Fin.ext (congrArg (fun z => z.2.1) hxy)
    cases h1; cases h2; rfl
  | .inl _, .inr (.inl (_, _)) => exact absurd (congrArg (fun z => z.1) hxy) (fun h => by cases h)
  | .inl _, .inr (.inr (_, _, _, _)) => exact absurd (congrArg (fun z => z.1) hxy) (fun h => by cases h)
  | .inr (.inl (_, _)), .inl _ => exact absurd (congrArg (fun z => z.1) hxy) (fun h => by cases h)
  | .inr (.inr (_, _, _, _)), .inl _ => exact absurd (congrArg (fun z => z.1) hxy) (fun h => by cases h)
  | .inr (.inl (_, _)), .inr (.inr (_, _, _, _)) => exact absurd (congrArg (fun z => z.1) hxy) (fun h => by cases h)
  | .inr (.inr (_, _, _, _)), .inr (.inl (_, _)) => exact absurd (congrArg (fun z => z.1) hxy) (fun h => by cases h)
def tokOf (x : Dev nD × Tk) : GSem nD τ sig × ℕ × Fin 3 := (cell x.1 (tkK x.2).1, (tkK x.2).2)
theorem tokOf_inj : Function.Injective tokOf := by
  rintro ⟨c, x⟩ ⟨c', x'⟩ h
  have h1 : cell c (tkK x).1 = cell c' (tkK x').1 := congrArg Prod.fst h
  have h2 := cell_inj (a₁ := (c, (tkK x).1)) (a₂ := (c', (tkK x').1)) h1
  have h3 : (tkK x).1 = (tkK x').1 := congrArg (fun z : Dev nD × Ki => z.2) h2
  have h4 : (tkK x).2 = (tkK x').2 := congrArg (fun z : GSem nD τ sig × ℕ × Fin 3 => z.2) h
  have h5 : c = c' := congrArg (fun z : Dev nD × Ki => z.1) h2
  rw [h5, tkK_inj (Prod.ext h3 h4)]
def meshToks : Finset (GSem nD τ sig × ℕ × Fin 3) := Finset.univ.map ⟨tokOf, tokOf_inj⟩

def u₀ : UU := (initOf (Pipeline.cells cfgs Gen.cellOf_inj) (Pipeline.launchToks cfgs Gen.cellOf_inj), initOf meshCells meshToks)

/-- A column of duties of the exchanges' cells of one kind. -/
def xD (l : Fin 3) (t : Fin 4) (A : Dev nD) (j : Fin 3) (h : Fin 4) : sProp 𝕄 := dutyTok ER (cell A (kX t j h)) l.val 0

/-- The duties of device `c`'s own cells. -/
def toksOwn : sProp 𝕄 :=
  iprop((bigSep Finset.univ fun k : Fin 3 => dutyTok ER (cell c kB) 0 k) ∗ wToks c
    ∗ bigSep Finset.univ fun l : Fin 3 => iprop(bb (xD l 0 c) ∗ bb (xD l 1 c) ∗ bb (xD l 2 c) ∗ bb (xD l 3 c)))
/-- The duties device `c` pays. -/
def toksPay : sProp 𝕄 :=
  iprop((bigSep Finset.univ fun i : Fin 3 => dutyTok ER (cell (peerD c i) kB) 0 i.rev) ∗ wToks c
    ∗ bigSep Finset.univ fun l : Fin 3 => iprop(bb (xD l 0 c) ∗ bb (fun j h => xD l 1 (peerD c j) j.rev h) ∗ bb (xD l 2 c) ∗ bb (fun j h => xD l 3 (peerD c j) j.rev h)))

theorem bigSep_fin3 (Φ : Fin 3 → sProp 𝕄) : bigSep Finset.univ Φ = iprop(Φ 0 ∗ Φ 1 ∗ Φ 2) := bigSep_univ_eq_bigSepL [0, 1, 2] (by decide) (by decide) Φ

theorem each {I : Type} [Fintype I] {Φ Ψ : I → sProp 𝕄} (h : ∀ i, Φ i ⊢ Ψ i) : bigSep Finset.univ Φ ⊢ bigSep Finset.univ Ψ := bigSep_mono fun i _ => h i

/-- The duties of the weight fetches of one kind. -/
def wD (c : Dev nD) (b : Fin 2) (i : Fin 3) : sProp 𝕄 := dutyTok ER (cell c (kW ((![0, 0, 1] : Fin 3 → Fin 2) i) b)) ((![0, 1, 0] : Fin 3 → ℕ) i) 0

/-- The minted duties, by kinds. -/
theorem toks_own : (bigSep Finset.univ fun x : Tk => (dutyTok ER (tokOf (c, x)).1 (tokOf (c, x)).2.1 (tokOf (c, x)).2.2 : sProp 𝕄)) ⊢ toksOwn c := by
  unfold toksOwn
  refine BIBase.Entails.trans (Entails.of_eq (show _ = iprop((bigSep Finset.univ fun k : Fin 3 => dutyTok ER (cell c kB) 0 k)
      ∗ ((bigSep Finset.univ fun i => wD c 0 i) ∗ bigSep Finset.univ fun i => wD c 1 i)
      ∗ bigSep Finset.univ fun l : Fin 3 => bigSep Finset.univ fun t : Fin 4 => bb (xD l t c)) from by
    rw [bigSep_univ_sum, bigSep_univ_sum, bigSep_univ_prod, bigSep_fin2]
    simp only [bigSep_univ_prod]
    rfl)) ?_
  iintro ⟨HB, ⟨HW, HW'⟩, HX⟩
  ihave HW := (Entails.of_eq (bigSep_fin3 (wD c 0))) $$ HW
  ihave HW' := (Entails.of_eq (bigSep_fin3 (wD c 1))) $$ HW'
  icases HW with ⟨W1, W2, W3⟩
  icases HW' with ⟨W4, W5, W6⟩
  isplitl [HB]; · iexact HB
  isplitl [W1 W2 W3 W4 W5 W6]
  · unfold wToks wD
    isplitl [W1]; · iexact W1
    isplitl [W2]; · iexact W2
    isplitl [W4]; · iexact W4
    isplitl [W5]; · iexact W5
    isplitl [W3]; · iexact W3
    iexact W6
  iapply (each fun l : Fin 3 => show (bigSep Finset.univ fun t : Fin 4 => bb (xD l t c)) ⊢ iprop(bb (xD l 0 c) ∗ bb (xD l 1 c) ∗ bb (xD l 2 c) ∗ bb (xD l 3 c)) from
    Entails.of_eq (bigSep_fin4 fun t => bb (xD l t c)))
  iexact HX

/-- Each device to a peer, and back along the other way. -/
def swapE : Dev nD × Fin 3 ≃ Dev nD × Fin 3 where
  toFun x := (peerD x.1 x.2, x.2.rev)
  invFun x := (peerD x.1 x.2, x.2.rev)
  left_inv x := Prod.ext (peer_peer x.1 x.2) (Fin.rev_rev x.2)
  right_inv x := Prod.ext (peer_peer x.1 x.2) (Fin.rev_rev x.2)
/-- What is held per slot of each device, dealt to the peers the slots are for. -/
theorem around (Φ : Dev nD → Fin 3 → sProp 𝕄) : (bigSep Finset.univ fun c => bigSep Finset.univ fun j => Φ c j) = bigSep Finset.univ fun c => bigSep Finset.univ fun j => Φ (peerD c j) j.rev := by
  rw [← bigSep_univ_prod (fun x : Dev nD × Fin 3 => Φ x.1 x.2), bigSep_univ_equiv swapE, bigSep_univ_prod]
  rfl

theorem toks_around : (bigSep Finset.univ fun c : Dev nD => (toksOwn c : sProp 𝕄)) ⊢ bigSep Finset.univ fun c : Dev nD => toksPay c := by
  have hX : ∀ (l : Fin 3) (t : Fin 4), (bigSep Finset.univ fun c : Dev nD => (bb (xD l t c) : sProp 𝕄)) = bigSep Finset.univ fun c : Dev nD => bb (fun j h => xD l t (peerD c j) j.rev h) := fun l t =>
    around (fun c j => bigSep Finset.univ fun h => xD l t c j h)
  unfold toksOwn toksPay
  simp only [bigSep_fin3 (fun l : Fin 3 => iprop(_ ∗ _)), bigSep_sep', hX _ 1, hX _ 3]
  rw [around (fun c k => dutyTok ER (cell c kB) 0 k)]

/-! ## The launch's ghost state -/

/-- What the launch element deals device `c`. -/
def G : sProp 𝕄 :=
  iprop((bigSep Finset.univ fun k : Ki => roundState ER (Rd D) (cell c k) 0)
    ∗ ((bigSep Finset.univ fun k : Ki => atPos ER (cell c k) 0 ∅ 0) ∗ bigSep Finset.univ fun k : Ki => reached ER (cell c k) 0) ∗ toksOwn c)

/-- The cells' invariants and marks. -/
def recs₀ : sProp 𝕄 :=
  iprop((bigSep Finset.univ fun ck : Dev nD × Ki => cellInv ER (Rd D) (K ck) (cell ck.1 ck.2)) ∗ (bigSep Finset.univ fun ck : Dev nD × Ki => reached ER (cell ck.1 ck.2) 0))
instance recs₀_persistent : BI.Persistent (recs₀ D K) := by unfold recs₀; infer_instance
/-- What the global step makes of it. -/
def G' : sProp 𝕄 := iprop(∃ K, recs₀ D K ∗ (bigSep Finset.univ fun k : Ki => atPos ER (cell c k) 0 ∅ 0) ∗ toksPay c)

theorem fund_mesh : BI.own (ER (initOf meshCells meshToks)) ⊢ (|==> bigSep Finset.univ (G D) : sProp 𝕄) := by
  have hX (Φ : GSem nD τ sig → sProp 𝕄) : bigSep meshCells Φ = bigSep Finset.univ fun c : Dev nD => bigSep Finset.univ fun k : Ki => Φ (cell c k) := by
    unfold meshCells; rw [bigSep_map, bigSep_univ_prod]; rfl
  have hT : bigSep meshToks (fun x => (dutyTok ER x.1 x.2.1 x.2.2 : sProp 𝕄)) ⊢ bigSep Finset.univ fun c : Dev nD => toksOwn c := by
    unfold meshToks; rw [bigSep_map, bigSep_univ_prod]
    exact bigSep_mono fun c _ => toks_own c
  iintro HX
  imod (Rounds.fund ER (Rd D) meshCells meshToks) $$ HX with ⟨Hst, Hr, Hat, Htok⟩
  imodintro
  ihave Hst' := (Entails.of_eq (hX fun g => roundState ER (Rd D) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

theorem unscopedSems0_eq : (unscopedSems0 c : sProp 𝕄) = semVal (cell c kB) 0 := by
  unfold unscopedSems0; rw [bigSep_eq_bigSepL_of_eq [SemLoc.reg barrier0] (by decide +kernel) (by decide)]; rfl
/-- The kernel's own semaphores and the barrier's are the cells'. -/
theorem sems0_eq : (bigSep Finset.univ fun k : Ki => (semVal (cell c k) 0 : sProp 𝕄))
    = iprop(unscopedSems0 c ∗ Pipeline.ownSems0 (Ix := ℕ) (Name := ℕ) (U := UU) (Lvl := ℕ) (Val := Elt F) (τ := τ) osem c) := by
  rw [unscopedSems0_eq, bigSep_option]; rfl

theorem core_alloc :
    iprop(Pipeline.ownSems0 (Ix := ℕ) (Name := ℕ) (U := UU) (Lvl := ℕ) (Val := Elt F) (τ := τ) osem c ∗ unscopedSems0 c ∗ G D c)
      ⊢ |={Set.univ}=> iprop((bigSep Finset.univ fun k : Ki => iprop(∃ κ : ℕ, cellInv ER (Rd D) κ (cell c k)))
          ∗ ((bigSep Finset.univ fun k : Ki => atPos ER (cell c k) 0 ∅ 0) ∗ bigSep Finset.univ fun k : Ki => reached ER (cell c k) 0) ∗ toksOwn c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Ki => semVal (cell c k) 0) ∗ bigSep Finset.univ fun k : Ki => roundState ER (Rd D) (cell c k) 0)
      ⊢ (|={Set.univ}=> bigSep Finset.univ fun k => iprop(∃ κ : ℕ, cellInv ER (Rd D) κ (cell c k)) : sProp 𝕄) from by
        rw [← bigSep_sep']
        exact (bigSep_mono fun k _ => (Rounds.body_intro ER (Rd D) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro : iprop(recs₀ D K ∗ (bigSep Finset.univ fun k : Ki => atPos ER (cell c k) 0 ∅ 0) ∗ toksPay c) ⊢ G' D c := by
  unfold G'
  iintro H
  iexists K; iexact H

theorem regroup :
    (bigSep Finset.univ fun c : Dev nD => iprop((bigSep Finset.univ fun k : Ki => iprop(∃ κ : ℕ, cellInv ER (Rd D) κ (cell c k)))
          ∗ ((bigSep Finset.univ fun k : Ki => atPos ER (cell c k) 0 ∅ 0) ∗ bigSep Finset.univ fun k : Ki => reached ER (cell c k) 0) ∗ toksOwn c) : sProp 𝕄)
      ⊢ bigSep Finset.univ (G' D) := by
  rw [bigSep_sep', bigSep_sep', bigSep_sep', ← bigSep_univ_prod (fun ck : Dev nD × Ki => iprop(∃ κ : ℕ, cellInv ER (Rd D) κ (cell ck.1 ck.2))),
    ← bigSep_univ_prod (fun ck : Dev nD × Ki => (reached ER (cell ck.1 ck.2) 0 : sProp 𝕄))]
  iintro ⟨HI, ⟨Hat, #HR⟩, Htok⟩
  ihave HK := (BI.bigSep_exists_pi Finset.univ (fun (ck : Dev nD × Ki) (κ : ℕ) => (cellInv ER (Rd D) κ (cell ck.1 ck.2) : sProp 𝕄))) $$ HI
  icases HK with ⟨%K, #HI⟩
  ihave Htk := (toks_around (F := F)) $$ Htok
  iapply (bigSep_with_persistent (R := recs₀ D K) fun c _ => ghost_intro D K c)
  isplitr
  · unfold recs₀; isplitl; · iexact HI
    iexact HR
  · iapply (Entails.of_eq (bigSep_sep' Finset.univ (fun c : Dev nD => bigSep Finset.univ fun k : Ki => (atPos ER (cell c k) 0 ∅ 0 : sProp 𝕄)) toksPay).symm)
    isplitl [Hat]; · iexact Hat
    iexact Htk

theorem glob : (bigSep Finset.univ fun c => iprop(Pipeline.ownSems0 (Ix := ℕ) (Name := ℕ) (U := UU) (Lvl := ℕ) (Val := Elt F) (τ := τ) osem c ∗ unscopedSems0 c ∗ G D c) : sProp 𝕄)
    ⊢ |={Set.univ}=> bigSep Finset.univ (G' D) :=
  ((bigSep_mono fun c _ => core_alloc D c).trans (bigSep_fupd _ _)).trans (BI.fupd_mono (regroup D))

/-! ## The launch's credit -/

/-- The launch deals device `c` the credit of each copy that comes to it, and of its barrier. -/
def creds : sProp 𝕄 :=
  iprop(cred (tallyAt (cell c kB) 0 3) ∗ bigSep Finset.univ fun l : Fin 3 =>
    iprop(bb (fun j h => cred (tallyAt (cell c (kX 1 j h)) l.val N)) ∗ bb (fun j h => cred (tallyAt (cell c (kX 3 j h)) l.val N))))

theorem cred_msg (x : Msg) : (Pipeline.launchCred (fun d => tgt d x) c : sProp 𝕄) ⊢ cred (tallyAt (cell c (kX (if x.2.1 = 0 then 1 else 3) x.2.2.1.rev x.2.2.2)) x.1.val N) :=
  Pipeline.launchCred_tallyAt (csem (kX (if x.2.1 = 0 then 1 else 3) x.2.2.1.rev x.2.2.2)) (fun d => peerD d x.2.2.1) (fun d => peerD d x.2.2.1.rev)
    (fun d => peer_peer' d x.2.2.1) (fun d => peer_peer d x.2.2.1) x.1.val N c

theorem cred_bar : (bigSep Finset.univ fun _ : Fin 3 => (cred (tallyAt (cell c kB) 0 1) : sProp 𝕄)) ⊢ cred (tallyAt (cell c kB) 0 3) := by
  rw [← Pipeline.cred_finsetSum]
  refine Entails.of_eq (congrArg cred ?_)
  rw [Fin.sum_univ_three, tallyAt_add, tallyAt_add]

/-- The slots named from the other end. -/
def revE : Fin 3 ≃ Fin 3 := ⟨Fin.rev, Fin.rev, Fin.rev_rev, Fin.rev_rev⟩

theorem cred_all : (Pipeline.launchCred (fun d => OB d 0) c : sProp 𝕄) ⊢ creds c := by
  unfold OB O
  rw [Pipeline.launchCred_add, Pipeline.launchCred_sum, Pipeline.launchCred_sum,
    Finset.filter_true_of_mem (fun x _ => Nat.zero_le _), Finset.filter_true_of_mem (fun x _ => Nat.zero_le _)]
  unfold creds
  iintro ⟨HX, HB⟩
  isplitl [HB]
  · iapply (cred_bar (F := F) c)
    iapply (each fun j => show (Pipeline.launchCred (fun d => tallyAt (cell (peerD d j) kB) 0 1) c : sProp 𝕄) ⊢ cred (tallyAt (cell c kB) 0 1) from
      Pipeline.launchCred_tallyAt (csem kB) (fun d => peerD d j) (fun d => peerD d j.rev) (fun d => peer_peer' d j) (fun d => peer_peer d j) 0 1 c)
    iexact HB
  ihave HX := (each fun x => cred_msg (F := F) c x) $$ HX
  have e : (bigSep Finset.univ fun x : Msg => (cred (tallyAt (cell c (kX (if x.2.1 = 0 then 1 else 3) x.2.2.1.rev x.2.2.2)) x.1.val N) : sProp 𝕄))
      = bigSep Finset.univ fun l : Fin 3 => iprop(bb (fun j h => cred (tallyAt (cell c (kX 1 j h)) l.val N)) ∗ bb (fun j h => cred (tallyAt (cell c (kX 3 j h)) l.val N))) := by
    rw [bigSep_univ_prod]
    refine bigSep_congr fun l _ => ?_
    rw [bigSep_univ_prod, bigSep_fin2, bigSep_univ_prod, bigSep_univ_prod, bb_def, bb_def, bigSep_univ_equiv revE (fun j : Fin 3 => bigSep Finset.univ fun h : Fin 4 => (cred (tallyAt (cell c (kX 1 j h)) l.val N) : sProp 𝕄)),
      bigSep_univ_equiv revE (fun j : Fin 3 => bigSep Finset.univ fun h : Fin 4 => (cred (tallyAt (cell c (kX 3 j h)) l.val N) : sProp 𝕄))]
    rfl
  ihave HX := (Entails.of_eq e) $$ HX
  iexact HX

/-- Credits and duties, as a layer takes them. -/
theorem toks_layer (l : Fin 3) :
    iprop((bb (fun j h => cred (tallyAt (cell c (kX 1 j h)) l.val N)) ∗ bb (fun j h => cred (tallyAt (cell c (kX 3 j h)) l.val N)))
      ∗ (bb (xD l 0 c) ∗ bb (fun j h => xD l 1 (peerD c j) j.rev h) ∗ bb (xD l 2 c) ∗ bb (fun j h => xD l 3 (peerD c j) j.rev h)))
    ⊢ bb (Tok (F := F) c l) := by
  refine BIBase.Entails.trans ?_ (Entails.of_eq (show iprop(bb (fun j h => cred (tallyAt (cell c (kX 1 j h)) l.val N)) ∗ bb (fun j h => cred (tallyAt (cell c (kX 3 j h)) l.val N))
      ∗ bb (xD l 0 c) ∗ bb (fun j h => xD l 1 (peerD c j) j.rev h) ∗ bb (xD l 2 c) ∗ bb (fun j h => xD l 3 (peerD c j) j.rev h)) = bb (Tok (F := F) c l) from by
    rw [← bb_sep, ← bb_sep, ← bb_sep, ← bb_sep, ← bb_sep]; rfl))
  iintro ⟨⟨H1, H3⟩, H⟩
  isplitl [H1]; · iexact H1
  isplitl [H3]; · iexact H3
  iexact H

end Cert.KernelIdeal.Mlp
-- ==== Proof.Scratch.lean ====
/-
  The scratch buffers, cut into the regions the body uses and joined again.
-/
module

public import proofs.«01_k».proof.Proof.Ends

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Facts₀ Cert.KernelIdeal.Facts

variable {F : FTy → Type} [FloatOps F]

local notation "𝕄" => MT nD τ sig ℕ (Elt F) ℕ UU ℕ

variable (c : Dev nD)

/-! ## A buffer at any contents, cut into parts -/

section Cut
variable (ℓ : Loc nD τ sig)
/-- Some elements of a buffer, at any contents. -/
def AnyOn (S : Finset (Idx ℓ)) : sProp 𝕄 := iprop(∃ f, ℓ ↦[S]{fullShare} f)
variable {T : Type} [Fintype T] [DecidableEq T] (Kt : T → Finset (Idx ℓ)) (hd : ∀ t t', t ≠ t' → Disjoint (Kt t) (Kt t'))
/-- What no part holds. -/
def rest : Finset (Idx ℓ) := Finset.univ \ Finset.univ.biUnion Kt

theorem any_each (S : Finset T) (f : Buf (Elt F) ℓ) : (bigSep S fun t => (ℓ ↦[Kt t]{fullShare} f : sProp 𝕄)) ⊢ bigSep S fun t => AnyOn (F := F) ℓ (Kt t) :=
  bigSep_mono fun t _ => show (ℓ ↦[Kt t]{fullShare} f : sProp 𝕄) ⊢ AnyOn ℓ (Kt t) from by unfold AnyOn; iintro H; iexists f; iexact H

include hd in
theorem cut : AnyOn (F := F) ℓ Finset.univ ⊢ iprop((bigSep Finset.univ fun t => AnyOn ℓ (Kt t)) ∗ AnyOn ℓ (rest ℓ Kt)) := by
  iintro H
  ihave H := (show AnyOn (F := F) ℓ Finset.univ ⊢ iprop(∃ f, ℓ ↦[Finset.univ]{fullShare} f) from by unfold AnyOn; exact BI.Entails.refl _) $$ H
  icases H with ⟨%f, H⟩
  ihave H := (pointsTo_split_subset (Finset.subset_univ (Finset.univ.biUnion Kt))).1 $$ H
  icases H with ⟨H1, H2⟩
  isplitl [H1]
  · iapply (any_each ℓ Kt Finset.univ f)
    iapply (Entails.of_eq (pointsTo_biUnion Finset.univ Kt fun t _ t' _ h => hd t t' h))
    iexact H1
  unfold AnyOn rest
  iexists f; iexact H2

include hd in
theorem joined : iprop((bigSep Finset.univ fun t => AnyOn (F := F) ℓ (Kt t)) ∗ AnyOn ℓ (rest ℓ Kt)) ⊢ AnyOn ℓ Finset.univ := by
  iintro ⟨H1, H2⟩
  ihave H2 := (show AnyOn (F := F) ℓ (rest ℓ Kt) ⊢ iprop(∃ f, ℓ ↦[rest ℓ Kt]{fullShare} f) from by unfold AnyOn; exact BI.Entails.refl _) $$ H2
  icases H2 with ⟨%f₀, H2⟩
  ihave H1 := (show (bigSep Finset.univ fun t => AnyOn (F := F) ℓ (Kt t)) ⊢ iprop(∃ fs : T → Buf (Elt F) ℓ, bigSep Finset.univ fun t => (ℓ ↦[Kt t]{fullShare} fs t)) from
    BI.bigSep_exists_pi Finset.univ (fun t (f : Buf (Elt F) ℓ) => (ℓ ↦[Kt t]{fullShare} f : sProp 𝕄))) $$ H1
  icases H1 with ⟨%fs, H1⟩
  ihave H1 := (pointsTo_biUnion_join Finset.univ Kt fs f₀ fun t _ t' _ h => hd t t' h) $$ H1
  icases H1 with ⟨%g, -, H1⟩
  ihave H := (pointsTo_join (q := fullShare) (f := g) (g := f₀) (I := Finset.univ.biUnion Kt) (J := rest ℓ Kt) Finset.disjoint_sdiff) $$ [H1 H2]
  · isplitl [H1] <;> iassumption
  unfold AnyOn
  iexists _
  ihave H := (Entails.of_eq (congrArg (fun S => (ℓ ↦[S]{fullShare} _ : sProp 𝕄)) (show Finset.univ.biUnion Kt ∪ rest ℓ Kt = Finset.univ from Finset.union_sdiff_of_subset (Finset.subset_univ _)))) $$ H
  iexact H
end Cut

/-! ## The scratch buffers -/

/-- The elements each buffer's parts cover. -/
abbrev pcWi : Fin 2 → Finset (Idx ((tc c).loc cc0_scratch0)) := fun s => (wiView s).view.set
abbrev pcWo : Fin 2 → Finset (Idx ((tc c).loc cc0_scratch1)) := fun s => (woView s).view.set
abbrev pcP : Fin 3 → Finset (Idx ((tc c).loc cc0_scratch2)) := fun j => plane c j
abbrev pcRs : Fin 3 × Fin 4 → Finset (Idx ((tc c).loc cc0_scratch3)) := fun x => (rsView x.1 x.2).view.set
abbrev pcM : Fin 4 → Finset (Idx ((tc c).loc cc0_scratch4)) := fun h => (mView h).view.set
abbrev pcAg : Fin 3 × Fin 4 → Finset (Idx ((tc c).loc cc0_scratch5)) := fun x => (agView x.1 x.2).view.set

theorem pcWi_disj (t t' : Fin 2) (h : t ≠ t') : Disjoint (pcWi c t) (pcWi c t') := by
  rw [Finset.disjoint_left]; intro i h1 h2
  exact h (Fin.ext (((mem_wiView t i).mp h1).symm.trans ((mem_wiView t' i).mp h2)))
theorem pcWo_disj (t t' : Fin 2) (h : t ≠ t') : Disjoint (pcWo c t) (pcWo c t') := by
  rw [Finset.disjoint_left]; intro i h1 h2
  exact h (Fin.ext (((mem_woView t i).mp h1).symm.trans ((mem_woView t' i).mp h2)))
theorem pcP_disj (t t' : Fin 3) (h : t ≠ t') : Disjoint (pcP c t) (pcP c t') := by
  rw [Finset.disjoint_left]; intro i h1 h2
  exact h (peer_inj c t t' (Fin.ext (((mem_plane c t i).mp h1).symm.trans ((mem_plane c t' i).mp h2))))
theorem pcRs_disj (t t' : Fin 3 × Fin 4) (h : t ≠ t') : Disjoint (pcRs c t) (pcRs c t') := by
  rw [Finset.disjoint_left]; intro i h1 h2
  have a := (mem_rsView t.1 t.2 i).mp h1; have b := (mem_rsView t'.1 t'.2 i).mp h2
  exact h (Prod.ext (Fin.ext (a.1.symm.trans b.1)) (Fin.ext (a.2.symm.trans b.2)))
theorem pcM_disj (t t' : Fin 4) (h : t ≠ t') : Disjoint (pcM c t) (pcM c t') := by
  rw [Finset.disjoint_left]; intro i h1 h2
  exact h (Fin.ext (((mem_mView t i).mp h1).symm.trans ((mem_mView t' i).mp h2)))
theorem pcAg_disj (t t' : Fin 3 × Fin 4) (h : t ≠ t') : Disjoint (pcAg c t) (pcAg c t') := by
  rw [Finset.disjoint_left]; intro i h1 h2
  have a := (mem_agView t.1 t.2 i).mp h1; have b := (mem_agView t'.1 t'.2 i).mp h2
  exact h (Prod.ext (Fin.ext (a.1.symm.trans b.1)) (Fin.ext (a.2.symm.trans b.2)))

/-- What the body never uses of the scratch buffers. -/
def scrRest : sProp 𝕄 :=
  iprop(AnyOn ((tc c).loc cc0_scratch0) (rest _ (pcWi c)) ∗ AnyOn ((tc c).loc cc0_scratch1) (rest _ (pcWo c)) ∗ AnyOn ((tc c).loc cc0_scratch2) (rest _ (pcP c))
    ∗ AnyOn ((tc c).loc cc0_scratch3) (rest _ (pcRs c)) ∗ AnyOn ((tc c).loc cc0_scratch4) (rest _ (pcM c)) ∗ AnyOn ((tc c).loc cc0_scratch5) (rest _ (pcAg c)))

/-- The scratch buffers whole. -/
def scrAll : sProp 𝕄 :=
  iprop(AnyOn ((tc c).loc cc0_scratch0) Finset.univ ∗ AnyOn ((tc c).loc cc0_scratch1) Finset.univ ∗ AnyOn ((tc c).loc cc0_scratch2) Finset.univ
    ∗ AnyOn ((tc c).loc cc0_scratch3) Finset.univ ∗ AnyOn ((tc c).loc cc0_scratch4) Finset.univ ∗ AnyOn ((tc c).loc cc0_scratch5) Finset.univ)
theorem scopedRest_all : (Pipeline.scopedRest (Ix := ℕ) (Name := ℕ) (U := UU) (Lvl := ℕ) (Val := Elt F) spec0 c : sProp 𝕄) = scrAll c := Gen.scopedRest0_eq c

/-- The parts, buffer by buffer. -/
theorem scr_parts : (scr c : sProp 𝕄)
    = iprop(AnyOn ((tc c).loc cc0_scratch0) (pcWi c 0) ∗ AnyOn ((tc c).loc cc0_scratch0) (pcWi c 1) ∗ AnyOn ((tc c).loc cc0_scratch1) (pcWo c 0) ∗ AnyOn ((tc c).loc cc0_scratch1) (pcWo c 1)
      ∗ (bigSep Finset.univ fun x => AnyOn ((tc c).loc cc0_scratch3) (pcRs c x)) ∗ (bigSep Finset.univ fun x => AnyOn ((tc c).loc cc0_scratch5) (pcAg c x))
      ∗ (bigSep Finset.univ fun j => AnyOn ((tc c).loc cc0_scratch2) (pcP c j)) ∗ bigSep Finset.univ fun h => AnyOn ((tc c).loc cc0_scratch4) (pcM c h)) := by
  rw [bigSep_univ_prod, bigSep_univ_prod]
  rfl

theorem scr_cut : (scrAll c : sProp 𝕄) ⊢ iprop(scr c ∗ scrRest c) := by
  rw [scr_parts]
  unfold scrAll scrRest
  iintro ⟨H0, H1, H2, H3, H4, H5⟩
  ihave H0 := (cut _ (pcWi c) (pcWi_disj c)) $$ H0
  ihave H1 := (cut _ (pcWo c) (pcWo_disj c)) $$ H1
  ihave H2 := (cut _ (pcP c) (pcP_disj c)) $$ H2
  ihave H3 := (cut _ (pcRs c) (pcRs_disj c)) $$ H3
  ihave H4 := (cut _ (pcM c) (pcM_disj c)) $$ H4
  ihave H5 := (cut _ (pcAg c) (pcAg_disj c)) $$ H5
  icases H0 with ⟨H0, R0⟩
  icases H1 with ⟨H1, R1⟩
  icases H2 with ⟨H2, R2⟩
  icases H3 with ⟨H3, R3⟩
  icases H4 with ⟨H4, R4⟩
  icases H5 with ⟨H5, R5⟩
  ihave H0 := (Entails.of_eq (bigSep_fin2 _)) $$ H0
  ihave H1 := (Entails.of_eq (bigSep_fin2 _)) $$ H1
  icases H0 with ⟨H00, H01⟩
  icases H1 with ⟨H10, H11⟩
  isplitl [H00 H01 H10 H11 H2 H3 H4 H5]
  · isplitl [H00]; · iexact H00
    isplitl [H01]; · iexact H01
    isplitl [H10]; · iexact H10
    isplitl [H11]; · iexact H11
    isplitl [H3]; · iexact H3
    isplitl [H5]; · iexact H5
    isplitl [H2]; · iexact H2
    iexact H4
  isplitl [R0]; · iexact R0
  isplitl [R1]; · iexact R1
  isplitl [R2]; · iexact R2
  isplitl [R3]; · iexact R3
  isplitl [R4]; · iexact R4
  iexact R5

theorem scr_joined : iprop(scr c ∗ scrRest c) ⊢ (scrAll c : sProp 𝕄) := by
  rw [scr_parts]
  unfold scrAll scrRest
  iintro ⟨⟨H00, H01, H10, H11, H3, H5, H2, H4⟩, R0, R1, R2, R3, R4, R5⟩
  isplitl [H00 H01 R0]
  · iapply (joined _ (pcWi c) (pcWi_disj c))
    isplitl [H00 H01]
    · iapply (Entails.of_eq (bigSep_fin2 _).symm)
      isplitl [H00]; · iexact H00
      iexact H01
    iexact R0
  isplitl [H10 H11 R1]
  · iapply (joined _ (pcWo c) (pcWo_disj c))
    isplitl [H10 H11]
    · iapply (Entails.of_eq (bigSep_fin2 _).symm)
      isplitl [H10]; · iexact H10
      iexact H11
    iexact R1
  isplitl [H2 R2]
  · iapply (joined _ (pcP c) (pcP_disj c)); isplitl [H2] <;> iassumption
  isplitl [H3 R3]
  · iapply (joined _ (pcRs c) (pcRs_disj c)); isplitl [H3] <;> iassumption
  isplitl [H4 R4]
  · iapply (joined _ (pcM c) (pcM_disj c)); isplitl [H4] <;> iassumption
  iapply (joined _ (pcAg c) (pcAg_disj c)); isplitl [H5] <;> iassumption

end Cert.KernelIdeal.Mlp
-- ==== Proof.Obl.lean ====
/-
  What the pipeline asks of the body on each device.
-/
module

public import proofs.«01_k».proof.Proof.Run
public import proofs.«01_k».proof.Proof.Ghost
public import proofs.«01_k».proof.Proof.Scratch
public import proofs.«01_k».proof.Proof.Gen.KernelIdeal.Points

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Facts₀ Cert.KernelIdeal.Facts

variable {F : FTy → Type} [FloatOps F]

local notation "𝕄" => MT nD τ sig ℕ (Elt F) ℕ UU ℕ

open Idealize.ShloMosaic.Pipeline (Dat Cfg Window BodyObligation)

variable (m : (ℓ : Loc nD τ sig) → Buf (Elt F) ℓ) (ρ : Dev nD → PrngReg) (c : Dev nD)

/-! ## The proof data -/

/-- The block of the input a device's staging buffer holds. -/
def xin : S64x1024.Idx → Elt F .f32 := (win0_0.blk (0 : Fin 1)).view.read (Elt F) (m ((tc c).loc main_arg0))
/-- The values the run starts from. -/
def inp : Inp F where
  wi l c := match l with
    | 0 => m ((tc c).loc main_arg1)
    | 1 => m ((tc c).loc main_arg2)
    | _ => m ((tc c).loc main_arg3)
  wo l c := match l with
    | 0 => m ((tc c).loc main_arg4)
    | 1 => m ((tc c).loc main_arg5)
    | _ => m ((tc c).loc main_arg6)
  x0 c := shapeCast S64x1024 (xin m c) shapeCasts_S64x1024_S64x1024
/-- The result a device computes. -/
def outAt : S64x1024.Idx → Elt F .f32 := XV (inp m) 3 c

/-- What a device's body starts from, but for the scratch buffers. -/
def start₀ : sProp 𝕄 :=
  iprop((∃ K, recs (inp m) K ∗ (bigSep Finset.univ fun k : Ki => atPos ER (cell c k) 0 ∅ 0) ∗ toksPay c) ∗ creds c ∗ wargs (inp m) c)
def Φ₀ : sProp 𝕄 := iprop(start₀ m c ∗ scr c ∗ scrRest c)
def Φ₁ : sProp 𝕄 := iprop(bodyEnd (inp m) c ∗ scrRest c)

def dats (_ : Fin 1) (c : Dev nD) : Dat τ (Elt F) ℕ ℕ UU ℕ cfg0 c where
  A w := m ((cfg0.win w).arr.view.loc (tc c))
  after w _ := match w with
    | ⟨0, _⟩ => xin m c
    | ⟨1, _⟩ => outAt m c
  Φ t := match t with
    | ⟨0, _⟩ => Φ₀ m c
    | ⟨_ + 1, _⟩ => Φ₁ m c
  q _ := fullShare
  owed t := match t with
    | ⟨0, _⟩ => OB c 0
    | ⟨_ + 1, _⟩ => 0

theorem bigSep_W (Φ : Fin cfg0.W → sProp 𝕄) : bigSep Finset.univ Φ = iprop(Φ (0 : Fin 2) ∗ Φ (1 : Fin 2)) := Gen.bigSep_W0 Φ

theorem owns_whole_eq (b : Ref sig .tc) (X : b.ty.Contents (Elt F)) :
    (owns (Ix := ℕ) (Name := ℕ) (U := UU) (Lvl := ℕ) (tc c) (Memref.whole b) fullShare X : sProp 𝕄)
      = iprop(∃ f : Buf (Elt F) ((tc c).loc b), ⌜f = X⌝ ∗ (((tc c).loc b) ↦{fullShare} f)) := by
  unfold owns; simp only [Memref.view_whole, View.read_whole, View.set_whole]

abbrev stg (b : Ref sig .tc) (X : b.ty.Contents (Elt F)) : sProp 𝕄 :=
  iprop(∃ f : Buf (Elt F) ((tc c).loc b), ⌜f = X⌝ ∗ (((tc c).loc b) ↦{fullShare} f))

/-! ## The body's obligation -/

def obPre : sProp 𝕄 :=
  iprop(Φ₀ m c ∗ (dats m 0 c).owesAt 0 Gen.t0_0.castSucc
    ∗ (∃ d, stg c cc0_stg0_0 ((dats m 0 c).before (0 : Fin 2) Gen.t0_0 d))
    ∗ (∃ d, stg c cc0_stg1_0 ((dats m 0 c).before (1 : Fin 2) Gen.t0_0 d)))
def obPost : sProp 𝕄 :=
  iprop(Φ₁ m c ∗ (dats m 0 c).owesAt 0 Gen.t0_0.succ ∗ stg c cc0_stg0_0 (xin m c) ∗ stg c cc0_stg1_0 (outAt m c))

/-- The two again, as the pipeline states them. -/
def obPre' : sProp 𝕄 :=
  iprop(Φ₀ m c ∗ (dats m 0 c).owesAt 0 Gen.t0_0.castSucc
    ∗ (∃ d, owns (tc c) (Memref.whole cc0_stg0_0) fullShare ((dats m 0 c).before (0 : Fin 2) Gen.t0_0 d))
    ∗ (∃ d, owns (tc c) (Memref.whole cc0_stg1_0) fullShare ((dats m 0 c).before (1 : Fin 2) Gen.t0_0 d)))
def obPost' : sProp 𝕄 :=
  iprop(Φ₁ m c ∗ (dats m 0 c).owesAt 0 Gen.t0_0.succ ∗ owns (tc c) (Memref.whole cc0_stg0_0) fullShare (xin m c)
    ∗ owns (tc c) (Memref.whole cc0_stg1_0) fullShare (outAt m c))
theorem obPre_eq : obPre m c = obPre' m c := by unfold obPre obPre' stg; simp only [owns_whole_eq]
theorem obPost_eq : obPost m c = obPost' m c := by unfold obPost obPost' stg; simp only [owns_whole_eq]

theorem pre_body (K : Dev nD × Ki → ℕ) :
    iprop(recs (inp m) K ∗ (bigSep Finset.univ fun k : Ki => atPos ER (cell c k) 0 ∅ 0) ∗ toksPay c ∗ creds c ∗ wargs (inp m) c ∗ scr c) ⊢ bodyPre (inp m) K c := by
  unfold toksPay creds bodyPre
  iintro ⟨HR, Hat, ⟨HtB, HW, HX⟩, ⟨HcB, HC⟩, Ha, Hs⟩
  ihave HT := (show iprop((bigSep Finset.univ fun l : Fin 3 => iprop(bb (fun j h => cred (tallyAt (cell c (kX 1 j h)) l.val N)) ∗ bb (fun j h => cred (tallyAt (cell c (kX 3 j h)) l.val N))))
      ∗ bigSep Finset.univ fun l : Fin 3 => iprop(bb (xD l 0 c) ∗ bb (fun j h => xD l 1 (peerD c j) j.rev h) ∗ bb (xD l 2 c) ∗ bb (fun j h => xD l 3 (peerD c j) j.rev h)))
      ⊢ iprop(bb (Tok (F := F) c (0 : Fin 3)) ∗ bb (Tok (F := F) c (1 : Fin 3)) ∗ bb (Tok (F := F) c (2 : Fin 3))) from by
    rw [← bigSep_sep']
    exact (each fun l => toks_layer c l).trans (Entails.of_eq (bigSep_fin3 fun l => bb (Tok (F := F) c l)))) $$ [HC HX]
  · isplitl [HC]; · iexact HC
    iexact HX
  isplitl [HR]; · iexact HR
  isplitl [HcB]; · iexact HcB
  isplitl [Hat]; · iexact Hat
  isplitl [HtB]; · iexact HtB
  isplitl [HW]; · iexact HW
  isplitl [HT]; · iexact HT
  isplitl [Ha]; · iexact Ha
  iexact Hs

theorem sound_body : obPre m c ⊢ WP c (body c) (fun _ => obPost m c) := by
  unfold obPre Φ₀ start₀
  iintro ⟨⟨⟨⟨%K, HR, Hat, Ht⟩, Hc, Ha⟩, Hs, Hrest⟩, Ho, ⟨%d0, %g0, %hg0, Hx⟩, ⟨%d1, %g1, %hg1, Hout⟩⟩
  have hx : g0 = xin m c := by rw [hg0]; unfold Dat.before; rw [if_pos (Gen.fetch0_0 Gen.t0_0)]; rfl
  subst hx
  unfold Dat.owesAt Pipeline.owesWithin
  icases Ho with ⟨%W, %hW, HO⟩
  iapply (WP_wand c _) $$ [HR Hat Ht Hc Ha Hs HO Hx Hout]
  · iapply (body_spec (inp m) K c (xin m c) g1 rfl)
    isplitl [HR Hat Ht Hc Ha Hs]
    · iapply (pre_body m c K)
      isplitl [HR]; · iexact HR
      isplitl [Hat]; · iexact Hat
      isplitl [Ht]; · iexact Ht
      isplitl [Hc]; · iexact Hc
      isplitl [Ha]; · iexact Ha
      iexact Hs
    isplitl [HO]
    · unfold owesB; iexists W; iexact HO
    unfold sIn sOut
    isplitl [Hx]; · iexact Hx
    iexact Hout
  iintro %_ ⟨HB, HO, Hx, Hout⟩
  unfold owesX sIn sOut obPost Φ₁ Dat.owesAt Pipeline.owesWithin
  icases HO with ⟨%W', HO⟩
  isplitl [HB Hrest]
  · isplitl [HB]; · iexact HB
    iexact Hrest
  isplitl [HO]
  · iexists W'
    isplitr; · ipureintro; exact fun _ _ => Or.inl trivial
    ihave HO := (Entails.of_eq (congrArg (fun o => (owes (tc c) o W' : sProp 𝕄)) (O_end c))) $$ HO
    iexact HO
  isplitl [Hx]
  · iexists _; isplitr; · (ipureintro; rfl)
    iexact Hx
  iexists _; isplitr; · (ipureintro; rfl)
  iexact Hout

theorem device_wp (b : Dev nD → P F PUnit) {Q : PUnit → sProp 𝕄} : WP c (b c) Q ⊢ WP c (Prog.lift .deviceId >>= fun d => b d) Q := by
  unfold WP
  simp only [Prog.lift, Prog.bind_op, Prog.bind_ret, wp_deviceId]
  exact BI.Entails.refl _

theorem bodyAt_eq : (Gen.bodyAt0 Gen.t0_0 : P F PUnit) = (Prog.lift .deviceId >>= fun d => body d) := by
  refine Eq.trans ?_ (body_eq (F := F))
  rfl

theorem at_body : obPre m c ⊢ WP c (Gen.bodyAt0 Gen.t0_0) (fun _ => obPost m c) := by
  have e : WP c (Prog.lift .deviceId >>= fun d => body d : P F PUnit) (fun _ => obPost m c) = WP c (Gen.bodyAt0 Gen.t0_0) (fun _ => obPost m c) :=
    congrArg (fun p => WP c p (fun _ => obPost m c)) bodyAt_eq.symm
  have h := device_wp c body (Q := fun _ => obPost m c)
  exact BIBase.Entails.trans (BIBase.Entails.trans (sound_body m c) h) (Entails.of_eq e)

theorem restate (p : P F PUnit) (h : obPre m c ⊢ WP c p (fun _ => obPost m c)) : obPre' m c ⊢ WP c p (fun _ => obPost' m c) := by
  rw [← obPre_eq, ← obPost_eq]; exact h

theorem at_body' : obPre' m c ⊢ WP c (Gen.bodyAt0 Gen.t0_0) (fun _ => obPost' m c) := restate m c _ (at_body m c)

theorem prog_eq : (defs₀ (F := F)) Proc.tc cfg0.body (cfg0.bodyArgs Gen.t0_0 (cfg0.slots Gen.t0_0)) = (Gen.bodyAt0 Gen.t0_0 : P F PUnit) := rfl

theorem body_obligation : BodyObligation (dats (F := F) m 0 c) (defs₀ (F := F)) 𝒱₀ 0 Set.univ := fun t => by
  rw [Gen.fin_N0 t]
  rw [bigSep_W, bigSep_W]
  rw [prog_eq]
  generalize hb : (Gen.bodyAt0 Gen.t0_0 : P F PUnit) = b
  have h := at_body' m c
  rw [hb] at h
  exact h

end Cert.KernelIdeal.Mlp
-- ==== Proof.Launch.lean ====
/-
  The launch of the kernel on the four devices, and its run.
-/
module

public import proofs.«01_k».proof.Proof.Obl
public import Idealize.ShloMosaic.Lib.Pipeline.CollectiveSegs

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Facts₀ Cert.KernelIdeal.Facts

variable {F : FTy → Type} [FloatOps F]

local notation "𝕄" => MT nD τ sig ℕ (Elt F) ℕ UU ℕ

open Idealize.ShloMosaic.Pipeline (Dat Cfg Window BodyObligation)
open Cert.KernelIdeal.Gen (cellOf_inj winFacts0 block_pos0 arr_whole0 stage_whole0)

variable (m : (ℓ : Loc nD τ sig) → Buf (Elt F) ℓ) (ρ : Dev nD → PrngReg) (c : Dev nD)

theorem ownSemFacts : Pipeline.OwnSemFacts cfg0.spec osem := by decide +kernel

theorem share_eq (w : Fin cfg0.W) : (dats m 0 c).share w = fullShare := by unfold Dat.share; split <;> rfl

theorem csem_in : ∀ k : Ki, csem k ≠ .dma (win0_0.sem (0 : Fin 1)) := by decide +kernel
theorem csem_out : ∀ k : Ki, csem k ≠ .dma (win0_1.sem (0 : Fin 1)) := by decide +kernel

theorem lv_none (g : GSem nD τ sig) (l : ℕ) (h : ∀ k, csem k ≠ g.2) : lv g l = 0 := by
  unfold lv dec Function.partialInv
  rw [dif_neg (fun e => h e.choose e.choose_spec)]

theorem wait_stage (q : DmaSem sig) (h : ∀ k, csem k ≠ .dma q) (t : Fin (cfg0.N + 1)) :
    (levAts L lv : sProp 𝕄) ⊢ MayWait (tc c) (.dma q) 0 ((dats m 0 c).owed t) := by
  rcases t with ⟨_ | _, ht⟩
  · exact mayWaitB c _ 0 (by decide) 0 (lv_none (tc c, .dma q) 0 h)
  · show _ ⊢ MayWait _ _ 0 0
    rw [MayWait_zero]
    iintro -; iempintro

/-- Waiting for a staging copy is allowed: its semaphore lies below all a device owes. -/
theorem waits : (levAts L lv : sProp 𝕄) ⊢ Pipeline.cellsWaits cfgs (dats m) 0 0 c :=
  Pipeline.cellsWaits_intro cfgs (dats m) 0 0 c fun w s t => by
    fin_cases w
    · fin_cases s; exact wait_stage m c _ csem_in t
    · fin_cases s; exact wait_stage m c _ csem_out t

/-- A device's six weight blocks. -/
theorem wargs_eq : wargs (inp m) c = iprop((((tc c).loc main_arg1) ↦{fullShare} m ((tc c).loc main_arg1)) ∗ (((tc c).loc main_arg2) ↦{fullShare} m ((tc c).loc main_arg2))
    ∗ (((tc c).loc main_arg3) ↦{fullShare} m ((tc c).loc main_arg3)) ∗ (((tc c).loc main_arg4) ↦{fullShare} m ((tc c).loc main_arg4))
    ∗ (((tc c).loc main_arg5) ↦{fullShare} m ((tc c).loc main_arg5)) ∗ (((tc c).loc main_arg6) ↦{fullShare} m ((tc c).loc main_arg6))) := rfl
/-- The same, as the launch hands them over. -/
theorem args_start : (Pipeline.unscopedRestP Pipeline.Prefetch.none cfg0.spec c (fun b => m ((tc c).loc b)) : sProp 𝕄) ⊢ wargs (inp m) c := by
  rw [wargs_eq]
  exact Entails.of_eq (Gen.unscopedRest0_eq c fun b => m ((tc c).loc b))

theorem start_intro :
    iprop(Pipeline.unscopedRestP Pipeline.Prefetch.none cfg0.spec c (fun b => m ((tc c).loc b)) ∗ levAts L lv
        ∗ Pipeline.launchCred (fun d => OB d 0) c ∗ prngReg c (ρ c) ∗ G' (inp m) c)
      ⊢ |={Set.univ}=> iprop(start₀ m c ∗ emp) := by
  unfold G' start₀ recs₀ recs
  iintro ⟨Hu, Hlev, Hcr, -, ⟨%K, ⟨Hi, Hr⟩, Hat, Ht⟩⟩
  ihave Hc := (cred_all (F := F) c) $$ Hcr
  ihave Ha := (args_start m c) $$ Hu
  imodintro
  isplitl
  · isplitl [Hi Hr Hlev Hat Ht]
    · iexists K
      isplitl [Hi Hr Hlev]
      · isplitl [Hi]; · iexact Hi
        isplitl [Hr]; · iexact Hr
        iexact Hlev
      isplitl [Hat]; · iexact Hat
      iexact Ht
    isplitl [Hc]; · iexact Hc
    iexact Ha
  · iempintro

theorem phi0_intro :
    iprop(start₀ m c ∗ Pipeline.prefHeld Pipeline.Prefetch.none c (fun _ => fullShare.right) (fun k => k.elim0) ∗ Pipeline.scopedRest cfg0.spec c)
      ⊢ (dats m 0 c).Φ 0 := by
  show _ ⊢ Φ₀ m c
  unfold Φ₀
  iintro ⟨Hs, -, Hr⟩
  isplitl [Hs]; · iexact Hs
  ihave Hr := (Entails.of_eq (scopedRest_all (F := F) c)) $$ Hr
  iapply (scr_cut c); iexact Hr

theorem phi1_exit :
    (dats m 0 c).Φ (Fin.last cfg0.N) ⊢ iprop((unscopedSems0 c ∗ wargs (inp m) c) ∗ Pipeline.ownSems0 osem c ∗ Pipeline.scopedRest cfg0.spec c) := by
  show Φ₁ m c ⊢ _
  unfold Φ₁ bodyEnd
  iintro ⟨⟨Hz, Ha, Hs⟩, Hr⟩
  ihave Hz := (Entails.of_eq (sems0_eq c)) $$ Hz
  icases Hz with ⟨HB, Ho⟩
  isplitl [HB Ha]
  · isplitl [HB]; · iexact HB
    iexact Ha
  isplitl [Ho]; · iexact Ho
  ihave H := (scr_joined c) $$ [Hs Hr]
  · isplitl [Hs]; · iexact Hs
    iexact Hr
  ihave H := (Entails.of_eq (scopedRest_all (F := F) c).symm) $$ H
  iexact H

/-- What the final memory says of a device's weight blocks. -/
def Same (s : MemSt nD τ sig (Elt F)) (b : Ref sig .tc) : Prop := s.mem ((tc c).loc b) = m ((tc c).loc b)
def QA (s : MemSt nD τ sig (Elt F)) : Prop :=
  Same m c s main_arg1 ∧ Same m c s main_arg2 ∧ Same m c s main_arg3 ∧ Same m c s main_arg4 ∧ Same m c s main_arg5 ∧ Same m c s main_arg6

theorem read_args (s' : Phys nD τ sig (Elt F)) : iprop(SI s' ∗ wargs (inp m) c) ⊢ (⌜QA m c s'.mem⌝ : sProp 𝕄) := by
  have hr (b : Ref sig .tc) : iprop(SI s' ∗ (((tc c).loc b) ↦{fullShare} m ((tc c).loc b))) ⊢ (⌜Same m c s'.mem b⌝ : sProp 𝕄) :=
    BIBase.Entails.trans SI_pointsTo_agree (BI.pure_mono fun h => funext fun i => h i (Finset.mem_univ i))
  rw [wargs_eq]
  iintro ⟨HSI, H1, H2, H3, H4, H5, H6⟩
  ihave %h1 := (hr main_arg1) $$ [HSI H1]
  · isplitl [HSI]; · iexact HSI
    iexact H1
  ihave %h2 := (hr main_arg2) $$ [HSI H2]
  · isplitl [HSI]; · iexact HSI
    iexact H2
  ihave %h3 := (hr main_arg3) $$ [HSI H3]
  · isplitl [HSI]; · iexact HSI
    iexact H3
  ihave %h4 := (hr main_arg4) $$ [HSI H4]
  · isplitl [HSI]; · iexact HSI
    iexact H4
  ihave %h5 := (hr main_arg5) $$ [HSI H5]
  · isplitl [HSI]; · iexact HSI
    iexact H5
  ihave %h6 := (hr main_arg6) $$ [HSI H6]
  · isplitl [HSI]; · iexact HSI
    iexact H6
  ipureintro
  exact ⟨h1, h2, h3, h4, h5, h6⟩

/-! ### The run -/

theorem last_x : (dats m 0 c).arrAt (0 : Fin 2) cfg0.N = m ((tc c).loc main_arg0) := (dats m 0 c).arrAt_in (0 : Fin 2) rfl _
theorem last_out : (win0_1.blk (0 : Fin 1)).view.read (Elt F) ((dats m 0 c).arrAt (1 : Fin 2) cfg0.N) = outAt m c := by
  rw [show cfg0.N = ((0 : Fin 1) : Fin cfg0.N).val + 1 from rfl, (dats m 0 c).arrAt_succ (1 : Fin 2) (0 : Fin 1)]
  rw [show (cfg0.win (1 : Fin 2)).flush (0 : Fin 1) = true from by decide, if_pos rfl]
  exact View.read_write_univ _ _

def Final (r : PUnit × MemSt nD τ sig (Elt F)) : Prop :=
  (∀ c : Dev nD, ((win0_1.blk (0 : Fin 1)).view.read (Elt F) (r.2.mem ((tc c).loc main_v1)) = outAt m c ∧ Same m c r.2 main_arg0) ∧ QA m c r.2) ∧ r.2.sem = fun _ => 0

set_option maxRecDepth 50000 in
/-- From any memory with zero counters, for any float values, every weakly fair execution of the kernel on the four
    devices ends, and then each device's result is the computed one, its seven arguments are unchanged and every
    semaphore counter is zero. -/
theorem run_main : θ_run defs (onTc (τ := τ) (main (F := F))) ⟨m, fun _ => 0, ρ⟩ (Final m) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun c => OB c 0) (howed₀ := fun _ => rfl) (howedN := fun _ => rfl)
    (L := L) (lv := lv) (hL := L_of_ne) (hwaits := waits m)
    (G := G (inp m)) (G' := G' (inp m)) (u₀ := u₀)
    (hu₀ := by
      unfold u₀
      iintro Hu
      ihave H := (ownU_pair _ _) $$ Hu
      icases H with ⟨HP, HX⟩
      imod (fund_mesh (inp m)) $$ HX with HG
      imodintro
      isplitl [HP] <;> iassumption)
    (hglob := glob (inp m))
    (hA := fun _ _ => rfl) (hpf := fun _ k => k.elim0)
    (X := start₀ m) (Y := fun c => iprop(unscopedSems0 c ∗ wargs (inp m) c)) (Z := fun _ => iprop(emp))
    (hX := start_intro m ρ) (hin := phi0_intro m) (hout := phi1_exit m)
    (QY := fun c s => (∀ sm : SemLoc sig, sm.isScoped .tc = false → s.sem (tc c, sm) = 0) ∧ QA m c s)
    (hY := fun c s' => by
      iintro ⟨⟨Hu, Ha⟩, -, HSI⟩
      ihave %h := (read_args m c s') $$ [HSI Ha]
      · isplitl [HSI] <;> iassumption
      imod (Pipeline.unscopedSems0_read (X := unscopedSems0 c) (c := c) fupd_intro s') $$ [Hu HSI] with ⟨%h0, HSI⟩
      · isplitl [Hu] <;> iassumption
      imodintro
      isplitr; · ipureintro; exact ⟨h0, h⟩
      iexact HSI)
    (hQ := fun _ h hs => ⟨fun c => ⟨⟨(congrArg _ ((h c).1 (1 : Fin 2))).trans (last_out m c), ((h c).1 (0 : Fin 2)).trans (last_x m c)⟩, (h c).2.2.2⟩,
      sem_eq_zero hs fun c => (h c).2.2.1⟩)

end Cert.KernelIdeal.Mlp
-- ==== Proof.Frames.lean ====
/-
  The frames of the kernel, at bits and at extended reals.
-/
module

public import proofs.«01_k».proof.Proof.Launch
public import proofs.«01_k».proof.Defs
public import proofs.«01_k».proof.Proof.Gen.Kernel

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Facts₀ Cert.KernelIdeal.Facts

variable {F : FTy → Type} [FloatOps F]

local notation "𝕄" => MT nD τ sig ℕ (Elt F) ℕ UU ℕ

theorem final_same {F : FTy → Type} [FloatOps F] {m : (ℓ : Loc nD τ sig) → Buf (Elt F) ℓ} {r : PUnit × MemSt nD τ sig (Elt F)} (h : Final m r) :
    (∀ c : Dev nD, Same m c r.2 main_arg0 ∧ QA m c r.2) ∧ r.2.sem = fun _ => 0 :=
  ⟨fun c => ⟨(h.1 c).1.2, (h.1 c).2⟩, h.2⟩

/-- The two programs have one table of bodies. -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) =>
    show Kernel.cc0_body (Kernel.win0_0.stage (s 0)) _ _ _ _ _ _ _ _ _ _ _ _ _ (Kernel.win0_1.stage (s 1)) _ _ _ _ _ _ _ _ _ _ _ _ _ _ _ _ _ _
      = KernelIdeal.cc0_body _ _ _ _ _ _ _ _ _ _ _ _ _ _ _ _ _ _ _ _ _ _ _ _ _ _ _ _ _ _ _ _ _
    rfl
theorem defs_eq : Cert.Kernel.defs (F := F) = Cert.KernelIdeal.defs (F := F) := congrArg (Pipeline.defs pcfgs) bodies_eq

/-- The kernel at bits ends, its arguments unchanged and every semaphore counter at zero. -/
theorem frame_kernel : Cert.quiescent_Kernel := fun m ρ _ => by
  rw [defs_eq]
  exact (θ_run Cert.KernelIdeal.defs _ _).mono (fun _ h => final_same h) (run_main (F := Bits) m ρ)

/-- The same of the kernel at extended reals. -/
theorem frame_kernelIdeal : Cert.quiescent_KernelIdeal := fun m ρ _ =>
  (θ_run Cert.KernelIdeal.defs _ _).mono (fun _ h => final_same h) (run_main (F := Ideal) m ρ)

end Cert.KernelIdeal.Mlp
-- ==== Proof.Sums.lean ====
/-
  The kernel's values over the extended reals, element by element: every sum over an axis cut in parts is the sum over the whole axis.
-/
module

public import proofs.«01_k».proof.Proof.Common
public import Idealize.ShloMosaic.Lib.MatmulPlain
public import Idealize.ShloMosaic.Lib.ValueIdx
public import Idealize.ShloMosaic.Lib.Pipeline.Value

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Facts₀ Cert.KernelIdeal.Facts

variable {F : FTy → Type} [FloatOps F]

local notation "𝕄" => MT nD τ sig ℕ (Elt F) ℕ UU ℕ

/-! ## Sums -/

section Sums
variable {α : Type} [AddCommMonoid α]

/-- A sum over a whole axis is the sum over its equal parts of the sums over each part. -/
theorem sum_parts {N : ℕ} (n b : ℕ) (hN : N = n * b) (f : Fin N → α) :
    ∑ K, f K = ∑ d : Fin n, ∑ k : Fin b, f ⟨b * d.val + k.val, by
      have := Nat.mul_le_mul_left b (Nat.succ_le_of_lt d.isLt); have := k.isLt; have := Nat.mul_comm n b; rw [Nat.mul_succ] at *; omega⟩ := by
  subst hN
  rw [← Equiv.sum_comp (finProdFinEquiv (m := n) (n := b)) f, Fintype.sum_prod_type]
  refine Finset.sum_congr rfl fun d _ => Finset.sum_congr rfl fun k _ => congrArg f (Fin.ext ?_)
  exact Nat.add_comm _ _

theorem everyone : ∀ c : Dev nD, (Finset.univ : Finset (Dev nD)) = {c, peerD c 1, peerD c 2, peerD c 0} := by decide +kernel
/-- A device and its three peers are all the devices. -/
theorem sum_devs (f : Dev nD → α) (c : Dev nD) : f c + f (peerD c 1) + f (peerD c 2) + f (peerD c 0) = ∑ d, f d := by
  rw [everyone c, Finset.sum_insert, Finset.sum_insert, Finset.sum_insert, Finset.sum_singleton]
  · simp only [add_assoc]
  · rw [Finset.mem_singleton]; exact fun h => absurd (peer_inj c _ _ h) (by decide)
  · rw [Finset.mem_insert, Finset.mem_singleton]
    rintro (h | h) <;> exact absurd (peer_inj c _ _ h) (by decide)
  · rw [Finset.mem_insert, Finset.mem_insert, Finset.mem_singleton]
    rintro (h | h | h) <;> exact peer_ne c _ h.symm

theorem sum_loop (n : ℕ) (f : Fin n → α) (a : α) : lpv n (fun i y => y + f i) a = a + ∑ i, f i := by
  induction n generalizing a with
  | zero => show a = _; rw [Fin.sum_univ_zero, add_zero]
  | succ n ih => show lpv n _ (a + f 0) = _; rw [ih, Fin.sum_univ_succ, add_assoc]
end Sums

/-! ## The values at an index -/

section At
variable (x : FVec Ideal S64x1024 .f32) (r : Fin 64)

theorem dotP_at (w : S1024x512.Idx → Elt Ideal .f32) (q : Fin 512) : dotP x w (ix2 r q) = ∑ k : Fin 1024, x (ix2 r k) * w (ix2 k q) := by
  unfold dotP
  rw [show dot_S64x1024_S1024x512_S64x512_1_0_0_1_n_n = DotDims.plain 64 1024 512 from rfl]
  refine (Ideal.matmul_plain_apply none x w _ r q).trans ?_
  rw [constant_apply, Ideal.ofBits_zero_f32, zero_add]

theorem dotO_at (a : FVec Ideal S64x128 .f32) (w : S128x1024.Idx → Elt Ideal .f32) (j : Fin 1024) :
    dotO a w (ix2 r j) = ∑ q : Fin 128, a (ix2 r q) * w (ix2 q j) := by
  unfold dotO
  rw [show dot_S64x128_S128x1024_S64x1024_1_0_0_1_n_n = DotDims.plain 64 128 1024 from rfl]
  refine (Ideal.matmul_plain_apply none a w _ r j).trans ?_
  rw [constant_apply, Ideal.ofBits_zero_f32, zero_add]

/-- Column `128 h + q` of a quarter. -/
def col (h : Fin 4) (q : Fin 128) : Fin 512 := ⟨128 * h.val + q.val, by have := h.isLt; have := q.isLt; omega⟩
/-- Column `k` of part `d` of the hidden axis, and of the outer one. -/
def hcol (d : Fin 4) (k : Fin 512) : Fin 2048 := ⟨512 * d.val + k.val, by have := d.isLt; have := k.isLt; omega⟩
def ocol (d : Fin 4) (k : Fin 1024) : Fin 4096 := ⟨1024 * d.val + k.val, by have := d.isLt; have := k.isLt; omega⟩

theorem ext_grp (v : S64x512.Idx → Elt Ideal .bf16) (h : Fin 4) (q : Fin 128) : ext (grp v h) (ix2 r q) = v (ix2 r (col h q)) := by
  show shapeCast S64x128 (grp v h) shapeCasts_S1x64x128_S64x128 (ix2 r q) = _
  refine (shapeCast_dropUnit_apply ![64, 128] (grp v h) _ (ix2 r q)).trans ?_
  exact congrArg v (ix2_ext rfl rfl)

theorem wcols_at (w : S1024x2048.Idx → Elt Ideal .f32) (p : Fin 4) (k : Fin 1024) (q : Fin 512) : wcols w p (ix2 k q) = w (ix2 k (hcol p q)) := rfl
theorem wrows_at (w : S2048x1024.Idx → Elt Ideal .f32) (p h : Fin 4) (q : Fin 128) (j : Fin 1024) :
    wrows w p h (ix2 q j) = w (ix2 (hcol p (col h q)) j) :=
  congrArg w (ix2_ext (Nat.add_assoc _ _ _) rfl)

theorem pv_at (w : S1024x2048.Idx → Elt Ideal .f32) (p : Dev nD) (q : Fin 512) :
    pv x w p (ix2 r q) = ∑ k : Fin 1024, x (ix2 r k) * w (ix2 k (hcol p q)) := dotP_at x r (wcols w p) q

theorem accv_at (own : FVec Ideal S64x512 .f32) (P : Fin 3 → S64x512.Idx → Elt Ideal .bf16) (h : Fin 4) (q : Fin 128) :
    accv own P h (ix2 r q) = own (ix2 r (col h q)) + P 1 (ix2 r (col h q)) + P 2 (ix2 r (col h q)) + P 0 (ix2 r (col h q)) := by
  have e : extractStridedSlice S64x128 (moff h) own (slices_h h) (ix2 r q) = own (ix2 r (col h q)) :=
    extractStridedSlice_apply (moff h) own (slices_h h) _ _ fun a => by
      match a with
      | ⟨0, _⟩ => show r.val = 0 + r.val; omega
      | ⟨1, _⟩ => rfl
  show extractStridedSlice S64x128 (moff h) own (slices_h h) (ix2 r q) + ext (grp (P 1) h) (ix2 r q) + ext (grp (P 2) h) (ix2 r q) + ext (grp (P 0) h) (ix2 r q) = _
  rw [e, ext_grp, ext_grp, ext_grp]
end At

/-! ## A layer -/

/-- The hidden values of a layer of the whole network, and its output, entry by entry. -/
def hidR (x : Fin 64 → Fin 4096 → EReal) (W : Fin 4096 → Fin 2048 → EReal) (r : Fin 64) (K : Fin 2048) : EReal :=
  max (∑ k, x r k * W k K) (Ideal.ofBits .f32 0x00000000#32)
def layR (x : Fin 64 → Fin 4096 → EReal) (W : Fin 4096 → Fin 2048 → EReal) (V : Fin 2048 → Fin 4096 → EReal) (r : Fin 64) (j : Fin 4096) : EReal :=
  ∑ K, hidR x W r K * V K j

section Layer
variable (D : Inp Ideal) (X : Dev nD → FVec Ideal S64x1024 .f32) (l : ℕ)
  (x : Fin 64 → Fin 4096 → EReal) (W : Fin 4096 → Fin 2048 → EReal) (V : Fin 2048 → Fin 4096 → EReal)
  (hX : ∀ d r k, X d (ix2 r k) = x r (ocol d k)) (hW : ∀ d k K, D.wi l d (ix2 k K) = W (ocol d k) K)
  (hV : ∀ d K j, D.wo l d (ix2 K j) = V K (ocol d j))
include hX hW

/-- The summed partials are the first product of the whole network. -/
theorem ownv_at (c : Dev nD) (h : Fin 4) (r : Fin 64) (q : Fin 128) :
    ownv D X l c h (ix2 r q) = ∑ k, x r k * W k (hcol c (col h q)) := by
  unfold ownv
  rw [accv_at, dotP_at, pv_at, pv_at, pv_at]
  refine (sum_devs (fun d => ∑ k : Fin 1024, X d (ix2 r k) * D.wi l d (ix2 k (hcol c (col h q)))) c).trans ?_
  rw [sum_parts 4 1024 rfl]
  exact Finset.sum_congr rfl fun d _ => Finset.sum_congr rfl fun k _ => by rw [hX, hW]; rfl

theorem relu_at (c : Dev nD) (h : Fin 4) (r : Fin 64) (q : Fin 128) :
    relu (ownv D X l c h) (ix2 r q) = hidR x W r (hcol c (col h q)) := by
  show max (ownv D X l c h (ix2 r q)) (Ideal.ofBits .f32 0x00000000#32) = _
  rw [ownv_at D X l x W hX hW]; rfl

theorem qv_at (c : Dev nD) (h : Fin 4) (r : Fin 64) (q : Fin 128) : qv D X l c (ix2 r (col h q)) = hidR x W r (hcol c (col h q)) := by
  have hq := q.isLt
  have e1 : (⟨(col h q).val / 128, by have := (col h q).isLt; omega⟩ : Fin 4) = h := Fin.ext (by show (128 * h.val + q.val) / 128 = h.val; omega)
  have e2 : (⟨(col h q).val % 128, Nat.mod_lt _ (by decide)⟩ : Fin 128) = q := Fin.ext (by show (128 * h.val + q.val) % 128 = q.val; omega)
  show packM (relu (ownv D X l c ⟨(col h q).val / 128, _⟩)) (ix2 r ⟨(col h q).val % 128, _⟩) = _
  rw [e1, e2]
  refine Eq.trans ?_ (relu_at D X l x W hX hW c h r q)
  unfold packM
  rw [shapeCast_self]; rfl

include hV
/-- What one device adds up is its columns of the second product. -/
theorem nextX_at (c : Dev nD) (r : Fin 64) (j : Fin 1024) : nextX D X l c (ix2 r j) = layR x W V r (ocol c j) := by
  let T : Dev nD → Fin 4 → EReal := fun d h => ∑ q : Fin 128, hidR x W r (hcol d (col h q)) * V (hcol d (col h q)) (ocol c j)
  have hown (h : Fin 4) : dotO (relu (ownv D X l c h)) (wrows (D.wo l c) c h) (ix2 r j) = T c h := by
    rw [dotO_at]
    exact Finset.sum_congr rfl fun q _ => by rw [relu_at D X l x W hX hW, wrows_at, hV]
  have hpeer (h : Fin 4) (i : Fin 3) :
      dotO (ext (grp (qv D X l (peerD c i)) h)) (wrows (D.wo l c) (peerD c i) h) (ix2 r j) = T (peerD c i) h := by
    rw [dotO_at]
    exact Finset.sum_congr rfl fun q _ => by rw [ext_grp, qv_at D X l x W hX hW, wrows_at, hV]
  have hread {n : ℕ} (f : Fin n → FVec Ideal S64x1024 .f32) (y : FVec Ideal S64x1024 .f32) :
      lpv n (fun i y => addf y (f i)) y (ix2 r j) = y (ix2 r j) + ∑ i, f i (ix2 r j) := by
    refine Eq.trans ?_ (sum_loop n (fun i => f i (ix2 r j)) (y (ix2 r j)))
    clear hown hpeer
    induction n generalizing y with
    | zero => rfl
    | succ n ih => exact ih (fun i => f i.succ) (addf y (f 0))
  have hread2 {n : ℕ} (f : Fin n → Fin 3 → FVec Ideal S64x1024 .f32) (y : FVec Ideal S64x1024 .f32) :
      lpv n (fun h y => lpv 3 (fun i y => addf y (f h i)) y) y (ix2 r j) = y (ix2 r j) + ∑ h, ∑ i, f h i (ix2 r j) := by
    refine Eq.trans ?_ (sum_loop n (fun h => ∑ i, f h i (ix2 r j)) (y (ix2 r j)))
    clear hown hpeer
    induction n generalizing y with
    | zero => rfl
    | succ n ih =>
      refine (ih (fun i => f i.succ) (lpv 3 (fun i y => addf y (f 0 i)) y)).trans ?_
      rw [hread (f 0) y]; rfl
  unfold nextX outv
  rw [hread2 (fun h i => dotO (ext (grp (qv D X l (peerD c (ordR i))) h)) (wrows (D.wo l c) (peerD c (ordR i)) h)),
    hread (fun h => dotO (relu (ownv D X l c h)) (wrows (D.wo l c) c h))]
  rw [show (broadcast S64x1024 (Scalar.ofBits (F := Ideal) .f32 0x00000000#32) : FVec Ideal S64x1024 .f32) (ix2 r j) = 0 from Ideal.ofBits_zero_f32, zero_add,
    ← Finset.sum_add_distrib]
  unfold layR
  rw [sum_parts 4 512 rfl]
  have hp (d : Fin 4) : (∑ k : Fin 512, hidR x W r (hcol d k) * V (hcol d k) (ocol c j)) = ∑ h, T d h := sum_parts 4 128 rfl _
  refine Eq.trans ?_ (Finset.sum_congr rfl fun d _ => (hp d).symm)
  rw [Finset.sum_comm]
  refine Finset.sum_congr rfl fun h _ => ?_
  rw [hown, Fin.sum_univ_three, hpeer, hpeer, hpeer, ← sum_devs (fun d => T d h) c]
  simp only [add_assoc]; rfl
end Layer

end Cert.KernelIdeal.Mlp
-- ==== Proof.Algebraic.lean ====
/-
  The value claim: each device's result of the kernel is its block of the reference's result.
-/
module

public import proofs.«01_k».proof.Proof.Sums
public import proofs.«01_k».proof.Proof.Launch
public import proofs.«01_k».proof.Defs
public import Idealize.ShloMosaic.Lib.StackMember
public import Idealize.ShloMosaic.Lib.Layout
public import proofs.«01_k».proof.Proof.Gen.ReferenceIdeal.Run

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Facts₀ Cert.KernelIdeal.Facts

variable {F : FTy → Type} [FloatOps F]

local notation "𝕄" => MT nD τ sig ℕ (Elt F) ℕ UU ℕ

/-! ## The reference -/

section Reference
open Cert.ReferenceIdeal (S64x4096 S4096x2048 S64x2048 S2048x4096 S_ dot_S64x4096_S4096x2048_S64x2048_1_0_0_1_n_n dot_S64x2048_S2048x4096_S64x4096_1_0_0_1_n_n)
variable (x : FVec Ideal S64x4096 .f32) (W : FVec Ideal S4096x2048 .f32) (V : FVec Ideal S2048x4096 .f32)

/-- A layer of the reference. -/
def layH : FVec Ideal S64x4096 .f32 :=
  Host.dotGeneral dot_S64x2048_S2048x4096_S64x4096_1_0_0_1_n_n none
    (maximumf (Host.dotGeneral dot_S64x4096_S4096x2048_S64x2048_1_0_0_1_n_n none x W)
      (broadcastInDim S64x2048 ![] Cert.ReferenceIdeal.Gen.bcast_S_S64x2048 (constant S_ .f32 0x00000000#32))) V

theorem layH_at (r : Fin 64) (j : Fin 4096) : layH x W V (ix2 r j) = layR (fun r k => x (ix2 r k)) (fun k K => W (ix2 k K)) (fun K j => V (ix2 K j)) r j := by
  unfold layH layR
  rw [show dot_S64x2048_S2048x4096_S64x4096_1_0_0_1_n_n = DotDims.plain 64 2048 4096 from rfl,
    show dot_S64x4096_S4096x2048_S64x2048_1_0_0_1_n_n = DotDims.plain 64 4096 2048 from rfl]
  refine (StackMember.dotGeneral_plain_apply none _ V r j).trans (Finset.sum_congr rfl fun K _ => congrArg (· * V (ix2 K j)) ?_)
  show max (Host.dotGeneral (DotDims.plain 64 4096 2048) none x W (ix2 r K)) (Ideal.ofBits .f32 0x00000000#32) = _
  rw [StackMember.dotGeneral_plain_apply]; rfl
end Reference

/-! ## The claim -/

section Blocks
variable {α : Type}
theorem cols_at (c : Fin 4) (v : (⟨2, ![64, 4096]⟩ : Shape).Idx → α) (r : Fin 64) (k : Fin 1024) :
    Layout.block ⟨2, ![64, 1024]⟩ ⟨2, ![64, 4096]⟩ 1 4 c v (by decide) (ix2 r k) = v (ix2 r (ocol c k)) :=
  congrArg v (ix2_ext rfl (congrArg (· + k.val) (Nat.mul_comm _ _)))
theorem rows_at (c : Fin 4) (v : (⟨2, ![4096, 2048]⟩ : Shape).Idx → α) (k : Fin 1024) (K : Fin 2048) :
    Layout.block ⟨2, ![1024, 2048]⟩ ⟨2, ![4096, 2048]⟩ 0 4 c v (by decide) (ix2 k K) = v (ix2 (ocol c k) K) :=
  congrArg v (ix2_ext (congrArg (· + k.val) (Nat.mul_comm _ _)) rfl)
theorem outs_at (c : Fin 4) (v : (⟨2, ![2048, 4096]⟩ : Shape).Idx → α) (K : Fin 2048) (j : Fin 1024) :
    Layout.block ⟨2, ![2048, 1024]⟩ ⟨2, ![2048, 4096]⟩ 1 4 c v (by decide) (ix2 K j) = v (ix2 K (ocol c j)) :=
  congrArg v (ix2_ext rfl (congrArg (· + j.val) (Nat.mul_comm _ _)))
end Blocks

/-- The one block of a window is the whole array. -/
theorem read_in (f : S64x1024.Idx → Elt Ideal .f32) : (win0_0.blk (0 : Fin 1)).view.read (Elt Ideal) f = f :=
  Memref.read_access_unit_zero (Elt Ideal) main_arg0 (off := fun a => (win0_0.index (0 : Fin 1)) a * main_arg0.ty.shape.size a)
    (funext fun a => by fin_cases a <;> decide) (fun a => by fin_cases a <;> decide) f
theorem read_out (f : S64x1024.Idx → Elt Ideal .f32) : (win0_1.blk (0 : Fin 1)).view.read (Elt Ideal) f = f :=
  Memref.read_access_unit_zero (Elt Ideal) main_v1 (off := fun a => (win0_1.index (0 : Fin 1)) a * main_v1.ty.shape.size a)
    (funext fun a => by fin_cases a <;> decide) (fun a => by fin_cases a <;> decide) f

/-- If each device's input is its block of the reference's, so is its output of a layer. -/
theorem layer_block (D : Inp Ideal) (l : ℕ) (x : FVec Ideal Cert.ReferenceIdeal.S64x4096 .f32) (W : FVec Ideal Cert.ReferenceIdeal.S4096x2048 .f32)
    (V : FVec Ideal Cert.ReferenceIdeal.S2048x4096 .f32)
    (hX : ∀ d r k, XV D l d (ix2 r k) = x (ix2 r (ocol d k)))
    (hW : ∀ d, D.wi l d = Layout.block ⟨2, ![1024, 2048]⟩ ⟨2, ![4096, 2048]⟩ 0 4 d W)
    (hV : ∀ d, D.wo l d = Layout.block ⟨2, ![2048, 1024]⟩ ⟨2, ![2048, 4096]⟩ 1 4 d V) :
    ∀ d r k, XV D (l + 1) d (ix2 r k) = layH x W V (ix2 r (ocol d k)) := fun d r k =>
  (nextX_at D (XV D l) l (fun r k => x (ix2 r k)) (fun k K => W (ix2 k K)) (fun K j => V (ix2 K j)) hX
    (fun d k K => (congrFun (hW d) _).trans (rows_at d W k K)) (fun d K j => (congrFun (hV d) _).trans (outs_at d V K j)) d r k).trans
    (layH_at x W V r (ocol d k)).symm

/-- Device `c`'s result of the kernel is block `c` of the reference's, over the extended reals. -/
theorem algebraic : Cert.algebraic_KernelIdeal_ReferenceIdeal := by
  intro m ρ m' ρ' _ hm
  refine ⟨_, (θ_run defs _ _).mono (fun r h c => ⟨?_, (h.1 c).1.2, (h.1 c).2⟩) (run_main (F := Ideal) m ρ),
    (θ_run Cert.ReferenceIdeal.defs _ _).mono (fun r h => h 0) (Cert.ReferenceIdeal.Value.run (F := Ideal) m' ρ')⟩
  have hr : r.2.mem ((tc c).loc main_v1) = outAt m c := by
    exact (read_out _).symm.trans (h.1 c).1.1
  have h0 (d : Dev nD) (r : Fin 64) (k : Fin 1024) : XV (inp m) 0 d (ix2 r k)
      = (m' (((0 : Dev Cert.ReferenceIdeal.nD).tc : Thread Cert.ReferenceIdeal.nD Cert.ReferenceIdeal.τ).loc Cert.ReferenceIdeal.main_arg0)) (ix2 r (ocol d k)) := by
    show shapeCast S64x1024 (xin m d) shapeCasts_S64x1024_S64x1024 (ix2 r k) = _
    rw [shapeCast_self]
    unfold xin
    rw [read_in, (hm d).1]
    exact cols_at d _ r k
  have h1 := layer_block (inp m) 0 _ _ _ h0 (fun d => (hm d).2.1) (fun d => (hm d).2.2.2.2.1)
  have h2 := layer_block (inp m) 1 _ _ _ h1 (fun d => (hm d).2.2.1) (fun d => (hm d).2.2.2.2.2.1)
  have h3 := layer_block (inp m) 2 _ _ _ h2 (fun d => (hm d).2.2.2.1) (fun d => (hm d).2.2.2.2.2.2)
  rw [show r.2.mem _ = outAt m c from hr]
  funext i
  have hi : i = ix2 (i 0) (i 1) := ix2_ext rfl rfl
  rw [hi]
  exact (h3 c (i 0) (i 1)).trans (cols_at c _ (i 0) (i 1)).symm

end Cert.KernelIdeal.Mlp
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference ends, its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- All the claims of the certificate. -/
theorem claim : Cert.Claim := ⟨Cert.Kernel.Gen.facts, Cert.KernelIdeal.Gen.facts, Cert.ReferenceIdeal.Gen.facts,
  Cert.KernelIdeal.Mlp.frame_kernel, Cert.KernelIdeal.Mlp.frame_kernelIdeal, frame_reference, trivial, Cert.KernelIdeal.Mlp.algebraic⟩

end Cert.Proof

end
